-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S1 : Shape := ⟨1, ![1]⟩
abbrev S4096x512 : Shape := ⟨2, ![4096, 512]⟩
abbrev S4x4096x512 : Shape := ⟨3, ![4, 4096, 512]⟩
abbrev S16x256x512 : Shape := ⟨3, ![16, 256, 512]⟩
abbrev S4 : Shape := ⟨1, ![4]⟩
abbrev S_ : Shape := ⟨0, ![]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x512, .bf16⟩
  | .local _ .vmem, ⟨0, _⟩ => ⟨S256x4096, .f32⟩
  | .local _ .vmem, ⟨1, _⟩ => ⟨S4096x512, .bf16⟩
  | .local _ .vmem, ⟨2, _⟩ => ⟨S256x4096, .bf16⟩
  | .local _ .vmem, ⟨3, _⟩ => ⟨S4x4096x512, .f32⟩
  | .local _ .vmem, ⟨4, _⟩ => ⟨S16x256x512, .bf16⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) (c3_i32 : BitVec 32) (c0_i32_7 : BitVec 32) (c0_i32_12 : BitVec 32) : Fin 2 → Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let v25 : BitVec 32 := Scalar.select v24 c3_i32 c0_i32_7
  let c4_i32_11 : BitVec 32 := 4#32
  let v28 : BitVec 32 := Scalar.muli v25 c4_i32_11
  let c4_i32_6 : BitVec 32 := 4#32
  let v23 : BitVec 32 := Scalar.remsi v2 c4_i32_6
  let v29 : BitVec 32 := Scalar.addi v23 c0_i32_12
  let c4_i32_13 : BitVec 32 := 4#32
  let v30 : BitVec 32 := Scalar.remsi v29 c4_i32_13
  let v31 : BitVec 32 := Scalar.addi v28 v30
  let c512_i32 : BitVec 32 := 512#32
  let v32 : BitVec 32 := Scalar.muli v31 c512_i32
  ![0, v32.toNat]
def k0_off1_at (r : Fin 8) : BitVec 32 × BitVec 32 × BitVec 32 :=
  if r.val < 4 then
    if r.val < 2 then
      if r.val < 1 then
        (3#32, 0#32, 0#32)
      else
        (3#32, 0#32, 1#32)
    else
      if r.val < 3 then
        (3#32, 0#32, 2#32)
      else
        (3#32, 0#32, 3#32)
  else
    if r.val < 6 then
      if r.val < 5 then
        (2#32, 1#32, 0#32)
      else
        (2#32, 1#32, 1#32)
    else
      if r.val < 7 then
        (2#32, 1#32, 2#32)
      else
        (2#32, 1#32, 3#32)
def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v65 : BitVec 32 := Scalar.addi v2 c1_i32_41
  let c16_i32_42 : BitVec 32 := 16#32
  let v66 : BitVec 32 := Scalar.remsi v65 c16_i32_42
  let c1_i32_44 : BitVec 32 := 1#32
  let v67 : BitVec 32 := Scalar.muli v66 c1_i32_44
  let v68 : BitVec 32 := Scalar.addi c0_i32_45 v67
  v68.toNat
def k0_dev2 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_46 : BitVec 32 := 2#32
  let v69 : BitVec 32 := Scalar.addi v2 c2_i32_46
  let c16_i32_47 : BitVec 32 := 16#32
  let v70 : BitVec 32 := Scalar.remsi v69 c16_i32_47
  let c1_i32_49 : BitVec 32 := 1#32
  let v71 : BitVec 32 := Scalar.muli v70 c1_i32_49
  let v72 : BitVec 32 := Scalar.addi c0_i32_50 v71
  v72.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_51 : BitVec 32 := 3#32
  let v73 : BitVec 32 := Scalar.addi v2 c3_i32_51
  let c16_i32_52 : BitVec 32 := 16#32
  let v74 : BitVec 32 := Scalar.remsi v73 c16_i32_52
  let c1_i32_54 : BitVec 32 := 1#32
  let v75 : BitVec 32 := Scalar.muli v74 c1_i32_54
  let v76 : BitVec 32 := Scalar.addi c0_i32_55 v75
  v76.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_56 : BitVec 32 := 4#32
  let v77 : BitVec 32 := Scalar.addi v2 c4_i32_56
  let c16_i32_57 : BitVec 32 := 16#32
  let v78 : BitVec 32 := Scalar.remsi v77 c16_i32_57
  let c1_i32_59 : BitVec 32 := 1#32
  let v79 : BitVec 32 := Scalar.muli v78 c1_i32_59
  let v80 : BitVec 32 := Scalar.addi c0_i32_60 v79
  v80.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v81 : BitVec 32 := Scalar.addi v2 c5_i32
  let c16_i32_61 : BitVec 32 := 16#32
  let v82 : BitVec 32 := Scalar.remsi v81 c16_i32_61
  let c1_i32_63 : BitVec 32 := 1#32
  let v83 : BitVec 32 := Scalar.muli v82 c1_i32_63
  let v84 : BitVec 32 := Scalar.addi c0_i32_64 v83
  v84.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v85 : BitVec 32 := Scalar.addi v2 c6_i32
  let c16_i32_65 : BitVec 32 := 16#32
  let v86 : BitVec 32 := Scalar.remsi v85 c16_i32_65
  let c1_i32_67 : BitVec 32 := 1#32
  let v87 : BitVec 32 := Scalar.muli v86 c1_i32_67
  let v88 : BitVec 32 := Scalar.addi c0_i32_68 v87
  v88.toNat
def k0_dev7 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v89 : BitVec 32 := Scalar.addi v2 c7_i32
  let c16_i32_69 : BitVec 32 := 16#32
  let v90 : BitVec 32 := Scalar.remsi v89 c16_i32_69
  let c1_i32_71 : BitVec 32 := 1#32
  let v91 : BitVec 32 := Scalar.muli v90 c1_i32_71
  let v92 : BitVec 32 := Scalar.addi c0_i32_72 v91
  v92.toNat
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v93 : BitVec 32 := Scalar.addi v2 c8_i32
  let c16_i32_73 : BitVec 32 := 16#32
  let v94 : BitVec 32 := Scalar.remsi v93 c16_i32_73
  let c1_i32_75 : BitVec 32 := 1#32
  let v95 : BitVec 32 := Scalar.muli v94 c1_i32_75
  let v96 : BitVec 32 := Scalar.addi c0_i32_76 v95
  v96.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v97 : BitVec 32 := Scalar.addi v2 c9_i32
  let c16_i32_77 : BitVec 32 := 16#32
  let v98 : BitVec 32 := Scalar.remsi v97 c16_i32_77
  let c1_i32_79 : BitVec 32 := 1#32
  let v99 : BitVec 32 := Scalar.muli v98 c1_i32_79
  let v100 : BitVec 32 := Scalar.addi c0_i32_80 v99
  v100.toNat
def k0_dev10 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v101 : BitVec 32 := Scalar.addi v2 c10_i32
  let c16_i32_81 : BitVec 32 := 16#32
  let v102 : BitVec 32 := Scalar.remsi v101 c16_i32_81
  let c1_i32_83 : BitVec 32 := 1#32
  let v103 : BitVec 32 := Scalar.muli v102 c1_i32_83
  let v104 : BitVec 32 := Scalar.addi c0_i32_84 v103
  v104.toNat
def k0_dev11 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v105 : BitVec 32 := Scalar.addi v2 c11_i32
  let c16_i32_85 : BitVec 32 := 16#32
  let v106 : BitVec 32 := Scalar.remsi v105 c16_i32_85
  let c1_i32_87 : BitVec 32 := 1#32
  let v107 : BitVec 32 := Scalar.muli v106 c1_i32_87
  let v108 : BitVec 32 := Scalar.addi c0_i32_88 v107
  v108.toNat
def k0_dev12 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v109 : BitVec 32 := Scalar.addi v2 c12_i32
  let c16_i32_89 : BitVec 32 := 16#32
  let v110 : BitVec 32 := Scalar.remsi v109 c16_i32_89
  let c1_i32_91 : BitVec 32 := 1#32
  let v111 : BitVec 32 := Scalar.muli v110 c1_i32_91
  let v112 : BitVec 32 := Scalar.addi c0_i32_92 v111
  v112.toNat
def k0_dev13 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v113 : BitVec 32 := Scalar.addi v2 c13_i32
  let c16_i32_93 : BitVec 32 := 16#32
  let v114 : BitVec 32 := Scalar.remsi v113 c16_i32_93
  let c1_i32_95 : BitVec 32 := 1#32
  let v115 : BitVec 32 := Scalar.muli v114 c1_i32_95
  let v116 : BitVec 32 := Scalar.addi c0_i32_96 v115
  v116.toNat
def k0_dev14 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v117 : BitVec 32 := Scalar.addi v2 c14_i32
  let c16_i32_97 : BitVec 32 := 16#32
  let v118 : BitVec 32 := Scalar.remsi v117 c16_i32_97
  let c1_i32_99 : BitVec 32 := 1#32
  let v119 : BitVec 32 := Scalar.muli v118 c1_i32_99
  let v120 : BitVec 32 := Scalar.addi c0_i32_100 v119
  v120.toNat
def k0_dev15 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v121 : BitVec 32 := Scalar.addi v2 c15_i32
  let c16_i32_101 : BitVec 32 := 16#32
  let v122 : BitVec 32 := Scalar.remsi v121 c16_i32_101
  let c1_i32_103 : BitVec 32 := 1#32
  let v123 : BitVec 32 := Scalar.muli v122 c1_i32_103
  let v124 : BitVec 32 := Scalar.addi c0_i32_104 v123
  v124.toNat
def k0_off2 (d0 : Dev nD) (c3_i32 : BitVec 32) (c0_i32_7 : BitVec 32) (c0_i32_131 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let v25 : BitVec 32 := Scalar.select v24 c3_i32 c0_i32_7
  let c4_i32_130 : BitVec 32 := 4#32
  let v155 : BitVec 32 := Scalar.muli v25 c4_i32_130
  let c4_i32_6 : BitVec 32 := 4#32
  let v23 : BitVec 32 := Scalar.remsi v2 c4_i32_6
  let v156 : BitVec 32 := Scalar.addi v23 c0_i32_131
  let c4_i32_132 : BitVec 32 := 4#32
  let v157 : BitVec 32 := Scalar.remsi v156 c4_i32_132
  let v158 : BitVec 32 := Scalar.addi v155 v157
  let v159 : Index := Scalar.indexCast v158
  let c0_133 : Index := 0#32
  let c0_134 : Index := 0#32
  ![v159.toNat, 0, 0]
def k0_off2_at (r : Fin 8) : BitVec 32 × BitVec 32 × BitVec 32 :=
  if r.val < 4 then
    if r.val < 2 then
      if r.val < 1 then
        (3#32, 0#32, 0#32)
      else
        (3#32, 0#32, 1#32)
    else
      if r.val < 3 then
        (3#32, 0#32, 2#32)
      else
        (3#32, 0#32, 3#32)
  else
    if r.val < 6 then
      if r.val < 5 then
        (2#32, 1#32, 0#32)
      else
        (2#32, 1#32, 1#32)
    else
      if r.val < 7 then
        (2#32, 1#32, 2#32)
      else
        (2#32, 1#32, 3#32)
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v163 : BitVec 32 := Scalar.muli v2 c256_i32
  let c0_i32_137 : BitVec 32 := 0#32
  ![v163.toNat, 0]
def k0_off4 (d0 : Dev nD) (c3_i32 : BitVec 32) (c0_i32_7 : BitVec 32) (c0_i32_131 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let v25 : BitVec 32 := Scalar.select v24 c3_i32 c0_i32_7
  let c4_i32_130 : BitVec 32 := 4#32
  let v155 : BitVec 32 := Scalar.muli v25 c4_i32_130
  let c4_i32_6 : BitVec 32 := 4#32
  let v23 : BitVec 32 := Scalar.remsi v2 c4_i32_6
  let v156 : BitVec 32 := Scalar.addi v23 c0_i32_131
  let c4_i32_132 : BitVec 32 := 4#32
  let v157 : BitVec 32 := Scalar.remsi v156 c4_i32_132
  let v158 : BitVec 32 := Scalar.addi v155 v157
  let c0_i32_138 : BitVec 32 := 0#32
  let c0_i32_139 : BitVec 32 := 0#32
  ![v158.toNat, 0, 0]
def k0_off4_at (r : Fin 8) : BitVec 32 × BitVec 32 × BitVec 32 :=
  if r.val < 4 then
    if r.val < 2 then
      if r.val < 1 then
        (3#32, 0#32, 0#32)
      else
        (3#32, 0#32, 1#32)
    else
      if r.val < 3 then
        (3#32, 0#32, 2#32)
      else
        (3#32, 0#32, 3#32)
  else
    if r.val < 6 then
      if r.val < 5 then
        (2#32, 1#32, 0#32)
      else
        (2#32, 1#32, 1#32)
    else
      if r.val < 7 then
        (2#32, 1#32, 2#32)
      else
        (2#32, 1#32, 3#32)
def k0_dev16 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let c3_i32 : BitVec 32 := 3#32
  let c0_i32_7 : BitVec 32 := 0#32
  let v25 : BitVec 32 := Scalar.select v24 c3_i32 c0_i32_7
  let c4_i32_130 : BitVec 32 := 4#32
  let v155 : BitVec 32 := Scalar.muli v25 c4_i32_130
  let c4_i32_6 : BitVec 32 := 4#32
  let v23 : BitVec 32 := Scalar.remsi v2 c4_i32_6
  let c0_i32_131 : BitVec 32 := 0#32
  let v156 : BitVec 32 := Scalar.addi v23 c0_i32_131
  let c4_i32_132 : BitVec 32 := 4#32
  let v157 : BitVec 32 := Scalar.remsi v156 c4_i32_132
  let v158 : BitVec 32 := Scalar.addi v155 v157
  let c1_i32_135 : BitVec 32 := 1#32
  let v164 : BitVec 32 := Scalar.muli v158 c1_i32_135
  let v165 : BitVec 32 := Scalar.addi c0_i32_136 v164
  v165.toNat
def k0_dev17 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let c3_i32 : BitVec 32 := 3#32
  let c0_i32_7 : BitVec 32 := 0#32
  let v25 : BitVec 32 := Scalar.select v24 c3_i32 c0_i32_7
  let c4_i32_164 : BitVec 32 := 4#32
  let v199 : BitVec 32 := Scalar.muli v25 c4_i32_164
  let c4_i32_6 : BitVec 32 := 4#32
  let v23 : BitVec 32 := Scalar.remsi v2 c4_i32_6
  let c1_i32_165 : BitVec 32 := 1#32
  let v200 : BitVec 32 := Scalar.addi v23 c1_i32_165
  let c4_i32_166 : BitVec 32 := 4#32
  let v201 : BitVec 32 := Scalar.remsi v200 c4_i32_166
  let v202 : BitVec 32 := Scalar.addi v199 v201
  let c1_i32_170 : BitVec 32 := 1#32
  let v208 : BitVec 32 := Scalar.muli v202 c1_i32_170
  let v209 : BitVec 32 := Scalar.addi c0_i32_171 v208
  v209.toNat
def k0_dev18 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let c3_i32 : BitVec 32 := 3#32
  let c0_i32_7 : BitVec 32 := 0#32
  let v25 : BitVec 32 := Scalar.select v24 c3_i32 c0_i32_7
  let c4_i32_199 : BitVec 32 := 4#32
  let v243 : BitVec 32 := Scalar.muli v25 c4_i32_199
  let c4_i32_6 : BitVec 32 := 4#32
  let v23 : BitVec 32 := Scalar.remsi v2 c4_i32_6
  let c2_i32_200 : BitVec 32 := 2#32
  let v244 : BitVec 32 := Scalar.addi v23 c2_i32_200
  let c4_i32_201 : BitVec 32 := 4#32
  let v245 : BitVec 32 := Scalar.remsi v244 c4_i32_201
  let v246 : BitVec 32 := Scalar.addi v243 v245
  let c1_i32_205 : BitVec 32 := 1#32
  let v252 : BitVec 32 := Scalar.muli v246 c1_i32_205
  let v253 : BitVec 32 := Scalar.addi c0_i32_206 v252
  v253.toNat
def k0_dev19 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let c3_i32 : BitVec 32 := 3#32
  let c0_i32_7 : BitVec 32 := 0#32
  let v25 : BitVec 32 := Scalar.select v24 c3_i32 c0_i32_7
  let c4_i32_234 : BitVec 32 := 4#32
  let v287 : BitVec 32 := Scalar.muli v25 c4_i32_234
  let c4_i32_6 : BitVec 32 := 4#32
  let v23 : BitVec 32 := Scalar.remsi v2 c4_i32_6
  let c3_i32_235 : BitVec 32 := 3#32
  let v288 : BitVec 32 := Scalar.addi v23 c3_i32_235
  let c4_i32_236 : BitVec 32 := 4#32
  let v289 : BitVec 32 := Scalar.remsi v288 c4_i32_236
  let v290 : BitVec 32 := Scalar.addi v287 v289
  let c1_i32_240 : BitVec 32 := 1#32
  let v296 : BitVec 32 := Scalar.muli v290 c1_i32_240
  let v297 : BitVec 32 := Scalar.addi c0_i32_241 v296
  v297.toNat
def k0_dev20 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let c2_i32_8 : BitVec 32 := 2#32
  let c1_i32_9 : BitVec 32 := 1#32
  let v26 : BitVec 32 := Scalar.select v24 c2_i32_8 c1_i32_9
  let c4_i32_270 : BitVec 32 := 4#32
  let v331 : BitVec 32 := Scalar.muli v26 c4_i32_270
  let c4_i32_6 : BitVec 32 := 4#32
  let v23 : BitVec 32 := Scalar.remsi v2 c4_i32_6
  let c0_i32_271 : BitVec 32 := 0#32
  let v332 : BitVec 32 := Scalar.addi v23 c0_i32_271
  let c4_i32_272 : BitVec 32 := 4#32
  let v333 : BitVec 32 := Scalar.remsi v332 c4_i32_272
  let v334 : BitVec 32 := Scalar.addi v331 v333
  let c1_i32_276 : BitVec 32 := 1#32
  let v340 : BitVec 32 := Scalar.muli v334 c1_i32_276
  let v341 : BitVec 32 := Scalar.addi c0_i32_277 v340
  v341.toNat
def k0_off5 (d0 : Dev nD) (c0_i32_282 : BitVec 32) : Fin 2 → Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c1_i32_10 : BitVec 32 := 1#32
  let v27 : BitVec 32 := Scalar.xori v22 c1_i32_10
  let c4_i32_281 : BitVec 32 := 4#32
  let v345 : BitVec 32 := Scalar.muli v27 c4_i32_281
  let c4_i32_6 : BitVec 32 := 4#32
  let v23 : BitVec 32 := Scalar.remsi v2 c4_i32_6
  let v346 : BitVec 32 := Scalar.addi v23 c0_i32_282
  let c4_i32_283 : BitVec 32 := 4#32
  let v347 : BitVec 32 := Scalar.remsi v346 c4_i32_283
  let v348 : BitVec 32 := Scalar.addi v345 v347
  let c512_i32_284 : BitVec 32 := 512#32
  let v349 : BitVec 32 := Scalar.muli v348 c512_i32_284
  ![0, v349.toNat]
def k0_dev21 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let c2_i32_8 : BitVec 32 := 2#32
  let c1_i32_9 : BitVec 32 := 1#32
  let v26 : BitVec 32 := Scalar.select v24 c2_i32_8 c1_i32_9
  let c4_i32_306 : BitVec 32 := 4#32
  let v375 : BitVec 32 := Scalar.muli v26 c4_i32_306
  let c4_i32_6 : BitVec 32 := 4#32
  let v23 : BitVec 32 := Scalar.remsi v2 c4_i32_6
  let c1_i32_307 : BitVec 32 := 1#32
  let v376 : BitVec 32 := Scalar.addi v23 c1_i32_307
  let c4_i32_308 : BitVec 32 := 4#32
  let v377 : BitVec 32 := Scalar.remsi v376 c4_i32_308
  let v378 : BitVec 32 := Scalar.addi v375 v377
  let c1_i32_312 : BitVec 32 := 1#32
  let v384 : BitVec 32 := Scalar.muli v378 c1_i32_312
  let v385 : BitVec 32 := Scalar.addi c0_i32_313 v384
  v385.toNat
def k0_dev22 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let c2_i32_8 : BitVec 32 := 2#32
  let c1_i32_9 : BitVec 32 := 1#32
  let v26 : BitVec 32 := Scalar.select v24 c2_i32_8 c1_i32_9
  let c4_i32_342 : BitVec 32 := 4#32
  let v419 : BitVec 32 := Scalar.muli v26 c4_i32_342
  let c4_i32_6 : BitVec 32 := 4#32
  let v23 : BitVec 32 := Scalar.remsi v2 c4_i32_6
  let c2_i32_343 : BitVec 32 := 2#32
  let v420 : BitVec 32 := Scalar.addi v23 c2_i32_343
  let c4_i32_344 : BitVec 32 := 4#32
  let v421 : BitVec 32 := Scalar.remsi v420 c4_i32_344
  let v422 : BitVec 32 := Scalar.addi v419 v421
  let c1_i32_348 : BitVec 32 := 1#32
  let v428 : BitVec 32 := Scalar.muli v422 c1_i32_348
  let v429 : BitVec 32 := Scalar.addi c0_i32_349 v428
  v429.toNat
def k0_dev23 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c2_i32 : BitVec 32 := 2#32
  let v24 : BitVec 1 := Scalar.cmpi .slt v22 c2_i32
  let c2_i32_8 : BitVec 32 := 2#32
  let c1_i32_9 : BitVec 32 := 1#32
  let v26 : BitVec 32 := Scalar.select v24 c2_i32_8 c1_i32_9
  let c4_i32_378 : BitVec 32 := 4#32
  let v463 : BitVec 32 := Scalar.muli v26 c4_i32_378
  let c4_i32_6 : BitVec 32 := 4#32
  let v23 : BitVec 32 := Scalar.remsi v2 c4_i32_6
  let c3_i32_379 : BitVec 32 := 3#32
  let v464 : BitVec 32 := Scalar.addi v23 c3_i32_379
  let c4_i32_380 : BitVec 32 := 4#32
  let v465 : BitVec 32 := Scalar.remsi v464 c4_i32_380
  let v466 : BitVec 32 := Scalar.addi v463 v465
  let c1_i32_384 : BitVec 32 := 1#32
  let v472 : BitVec 32 := Scalar.muli v466 c1_i32_384
  let v473 : BitVec 32 := Scalar.addi c0_i32_385 v472
  v473.toNat
def k0_off6 (d0 : Dev nD) (c0_i32_415 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c1_i32_10 : BitVec 32 := 1#32
  let v27 : BitVec 32 := Scalar.xori v22 c1_i32_10
  let c4_i32_414 : BitVec 32 := 4#32
  let v507 : BitVec 32 := Scalar.muli v27 c4_i32_414
  let c4_i32_6 : BitVec 32 := 4#32
  let v23 : BitVec 32 := Scalar.remsi v2 c4_i32_6
  let v508 : BitVec 32 := Scalar.addi v23 c0_i32_415
  let c4_i32_416 : BitVec 32 := 4#32
  let v509 : BitVec 32 := Scalar.remsi v508 c4_i32_416
  let v510 : BitVec 32 := Scalar.addi v507 v509
  let v511 : Index := Scalar.indexCast v510
  let c0_417 : Index := 0#32
  let c0_418 : Index := 0#32
  ![v511.toNat, 0, 0]
def k0_off7 (d0 : Dev nD) (c0_i32_415 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c1_i32_10 : BitVec 32 := 1#32
  let v27 : BitVec 32 := Scalar.xori v22 c1_i32_10
  let c4_i32_414 : BitVec 32 := 4#32
  let v507 : BitVec 32 := Scalar.muli v27 c4_i32_414
  let c4_i32_6 : BitVec 32 := 4#32
  let v23 : BitVec 32 := Scalar.remsi v2 c4_i32_6
  let v508 : BitVec 32 := Scalar.addi v23 c0_i32_415
  let c4_i32_416 : BitVec 32 := 4#32
  let v509 : BitVec 32 := Scalar.remsi v508 c4_i32_416
  let v510 : BitVec 32 := Scalar.addi v507 v509
  let c0_i32_423 : BitVec 32 := 0#32
  let c0_i32_424 : BitVec 32 := 0#32
  ![v510.toNat, 0, 0]
def k0_dev24 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c1_i32_10 : BitVec 32 := 1#32
  let v27 : BitVec 32 := Scalar.xori v22 c1_i32_10
  let c4_i32_414 : BitVec 32 := 4#32
  let v507 : BitVec 32 := Scalar.muli v27 c4_i32_414
  let c4_i32_6 : BitVec 32 := 4#32
  let v23 : BitVec 32 := Scalar.remsi v2 c4_i32_6
  let c0_i32_415 : BitVec 32 := 0#32
  let v508 : BitVec 32 := Scalar.addi v23 c0_i32_415
  let c4_i32_416 : BitVec 32 := 4#32
  let v509 : BitVec 32 := Scalar.remsi v508 c4_i32_416
  let v510 : BitVec 32 := Scalar.addi v507 v509
  let c1_i32_420 : BitVec 32 := 1#32
  let v516 : BitVec 32 := Scalar.muli v510 c1_i32_420
  let v517 : BitVec 32 := Scalar.addi c0_i32_421 v516
  v517.toNat
def k0_off8 (d0 : Dev nD) (c0_i32_426 : BitVec 32) : Fin 2 → Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c4_i32_425 : BitVec 32 := 4#32
  let v521 : BitVec 32 := Scalar.muli v22 c4_i32_425
  let c4_i32_6 : BitVec 32 := 4#32
  let v23 : BitVec 32 := Scalar.remsi v2 c4_i32_6
  let v522 : BitVec 32 := Scalar.addi v23 c0_i32_426
  let c1_i32_427 : BitVec 32 := 1#32
  let v523 : BitVec 32 := Scalar.addi v522 c1_i32_427
  let c4_i32_428 : BitVec 32 := 4#32
  let v524 : BitVec 32 := Scalar.remsi v523 c4_i32_428
  let v525 : BitVec 32 := Scalar.addi v521 v524
  let c512_i32_429 : BitVec 32 := 512#32
  let v526 : BitVec 32 := Scalar.muli v525 c512_i32_429
  ![0, v526.toNat]
def k0_dev25 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c1_i32_10 : BitVec 32 := 1#32
  let v27 : BitVec 32 := Scalar.xori v22 c1_i32_10
  let c4_i32_451 : BitVec 32 := 4#32
  let v552 : BitVec 32 := Scalar.muli v27 c4_i32_451
  let c4_i32_6 : BitVec 32 := 4#32
  let v23 : BitVec 32 := Scalar.remsi v2 c4_i32_6
  let c1_i32_452 : BitVec 32 := 1#32
  let v553 : BitVec 32 := Scalar.addi v23 c1_i32_452
  let c4_i32_453 : BitVec 32 := 4#32
  let v554 : BitVec 32 := Scalar.remsi v553 c4_i32_453
  let v555 : BitVec 32 := Scalar.addi v552 v554
  let c1_i32_457 : BitVec 32 := 1#32
  let v561 : BitVec 32 := Scalar.muli v555 c1_i32_457
  let v562 : BitVec 32 := Scalar.addi c0_i32_458 v561
  v562.toNat
def k0_dev26 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c1_i32_10 : BitVec 32 := 1#32
  let v27 : BitVec 32 := Scalar.xori v22 c1_i32_10
  let c4_i32_488 : BitVec 32 := 4#32
  let v597 : BitVec 32 := Scalar.muli v27 c4_i32_488
  let c4_i32_6 : BitVec 32 := 4#32
  let v23 : BitVec 32 := Scalar.remsi v2 c4_i32_6
  let c2_i32_489 : BitVec 32 := 2#32
  let v598 : BitVec 32 := Scalar.addi v23 c2_i32_489
  let c4_i32_490 : BitVec 32 := 4#32
  let v599 : BitVec 32 := Scalar.remsi v598 c4_i32_490
  let v600 : BitVec 32 := Scalar.addi v597 v599
  let c1_i32_494 : BitVec 32 := 1#32
  let v606 : BitVec 32 := Scalar.muli v600 c1_i32_494
  let v607 : BitVec 32 := Scalar.addi c0_i32_495 v606
  v607.toNat
def k0_dev27 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c1_i32_10 : BitVec 32 := 1#32
  let v27 : BitVec 32 := Scalar.xori v22 c1_i32_10
  let c4_i32_525 : BitVec 32 := 4#32
  let v642 : BitVec 32 := Scalar.muli v27 c4_i32_525
  let c4_i32_6 : BitVec 32 := 4#32
  let v23 : BitVec 32 := Scalar.remsi v2 c4_i32_6
  let c3_i32_526 : BitVec 32 := 3#32
  let v643 : BitVec 32 := Scalar.addi v23 c3_i32_526
  let c4_i32_527 : BitVec 32 := 4#32
  let v644 : BitVec 32 := Scalar.remsi v643 c4_i32_527
  let v645 : BitVec 32 := Scalar.addi v642 v644
  let c1_i32_531 : BitVec 32 := 1#32
  let v651 : BitVec 32 := Scalar.muli v645 c1_i32_531
  let v652 : BitVec 32 := Scalar.addi c0_i32_532 v651
  v652.toNat
def k0_off9 (d0 : Dev nD) : Fin 2 → Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_536 : BitVec 32 := 512#32
  let v656 : BitVec 32 := Scalar.muli v2 c512_i32_536
  ![0, v656.toNat]
def k0_off10 (d0 : Dev nD) (c0_i32_560 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c4_i32_559 : BitVec 32 := 4#32
  let v683 : BitVec 32 := Scalar.muli v22 c4_i32_559
  let c4_i32_6 : BitVec 32 := 4#32
  let v23 : BitVec 32 := Scalar.remsi v2 c4_i32_6
  let v684 : BitVec 32 := Scalar.addi v23 c0_i32_560
  let c1_i32_561 : BitVec 32 := 1#32
  let v685 : BitVec 32 := Scalar.addi v684 c1_i32_561
  let c4_i32_562 : BitVec 32 := 4#32
  let v686 : BitVec 32 := Scalar.remsi v685 c4_i32_562
  let v687 : BitVec 32 := Scalar.addi v683 v686
  let v688 : Index := Scalar.indexCast v687
  let c0_563 : Index := 0#32
  let c0_564 : Index := 0#32
  ![v688.toNat, 0, 0]
def k0_off11 (d0 : Dev nD) (c0_i32_560 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c4_i32_559 : BitVec 32 := 4#32
  let v683 : BitVec 32 := Scalar.muli v22 c4_i32_559
  let c4_i32_6 : BitVec 32 := 4#32
  let v23 : BitVec 32 := Scalar.remsi v2 c4_i32_6
  let v684 : BitVec 32 := Scalar.addi v23 c0_i32_560
  let c1_i32_561 : BitVec 32 := 1#32
  let v685 : BitVec 32 := Scalar.addi v684 c1_i32_561
  let c4_i32_562 : BitVec 32 := 4#32
  let v686 : BitVec 32 := Scalar.remsi v685 c4_i32_562
  let v687 : BitVec 32 := Scalar.addi v683 v686
  let c0_i32_569 : BitVec 32 := 0#32
  let c0_i32_570 : BitVec 32 := 0#32
  ![v687.toNat, 0, 0]
def k0_dev28 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c4_i32_559 : BitVec 32 := 4#32
  let v683 : BitVec 32 := Scalar.muli v22 c4_i32_559
  let c4_i32_6 : BitVec 32 := 4#32
  let v23 : BitVec 32 := Scalar.remsi v2 c4_i32_6
  let c0_i32_560 : BitVec 32 := 0#32
  let v684 : BitVec 32 := Scalar.addi v23 c0_i32_560
  let c1_i32_561 : BitVec 32 := 1#32
  let v685 : BitVec 32 := Scalar.addi v684 c1_i32_561
  let c4_i32_562 : BitVec 32 := 4#32
  let v686 : BitVec 32 := Scalar.remsi v685 c4_i32_562
  let v687 : BitVec 32 := Scalar.addi v683 v686
  let c1_i32_566 : BitVec 32 := 1#32
  let v693 : BitVec 32 := Scalar.muli v687 c1_i32_566
  let v694 : BitVec 32 := Scalar.addi c0_i32_567 v693
  v694.toNat
def k0_dev29 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c4_i32_588 : BitVec 32 := 4#32
  let v719 : BitVec 32 := Scalar.muli v22 c4_i32_588
  let c4_i32_6 : BitVec 32 := 4#32
  let v23 : BitVec 32 := Scalar.remsi v2 c4_i32_6
  let c1_i32_589 : BitVec 32 := 1#32
  let v720 : BitVec 32 := Scalar.addi v23 c1_i32_589
  let c1_i32_590 : BitVec 32 := 1#32
  let v721 : BitVec 32 := Scalar.addi v720 c1_i32_590
  let c4_i32_591 : BitVec 32 := 4#32
  let v722 : BitVec 32 := Scalar.remsi v721 c4_i32_591
  let v723 : BitVec 32 := Scalar.addi v719 v722
  let c1_i32_595 : BitVec 32 := 1#32
  let v729 : BitVec 32 := Scalar.muli v723 c1_i32_595
  let v730 : BitVec 32 := Scalar.addi c0_i32_596 v729
  v730.toNat
def k0_dev30 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 1 := Scalar.cmpi .sgt v2 c0_i32
  let v8 : BitVec 32 := Scalar.extui v7
  let c0_i32_1 : BitVec 32 := 0#32
  let v9 : BitVec 1 := Scalar.cmpi .slt v2 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v2 c4_i32
  let c0_i32_4 : BitVec 32 := 0#32
  let v19 : BitVec 1 := Scalar.cmpi .ne v18 c0_i32_4
  let v20 : BitVec 1 := Scalar.andi v17 v19
  let v6 : BitVec 32 := Scalar.divsi v2 c4_i32
  let c1_i32_5 : BitVec 32 := 1#32
  let v21 : BitVec 32 := Scalar.subi v6 c1_i32_5
  let v22 : BitVec 32 := Scalar.select v20 v21 v6
  let c4_i32_617 : BitVec 32 := 4#32
  let v755 : BitVec 32 := Scalar.muli v22 c4_i32_617
  let c4_i32_6 : BitVec 32 := 4#32
  let v23 : BitVec 32 := Scalar.remsi v2 c4_i32_6
  let c2_i32_618 : BitVec 32 := 2#32
  let v756 : BitVec 32 := Scalar.addi v23 c2_i32_618
  let c1_i32_619 : BitVec 32 := 1#32
  let v757 : BitVec 32 := Scalar.addi v756 c1_i32_619
  let c4_i32_620 : BitVec 32 := 4#32
  let v758 : BitVec 32 := Scalar.remsi v757 c4_i32_620
  let v759 : BitVec 32 := Scalar.addi v755 v758
  let c1_i32_624 : BitVec 32 := 1#32
  let v765 : BitVec 32 := Scalar.muli v759 c1_i32_624
  let v766 : BitVec 32 := Scalar.addi c0_i32_625 v765
  v766.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_642 : BitVec 32 := 256#32
  let v786 : BitVec 32 := Scalar.muli v2 c256_i32_642
  let v787 : Index := Scalar.indexCast v786
  let c0_643 : Index := 0#32
  ![v787.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Order.lean ====
/-
# The order of the sixteen blocks

Every device computes sixteen column blocks of its result and sends fifteen of them away. The kernel names the
block of step `j` by words computed from the device number; here the same order is a plain function of numbers,
`tgt c j`, and the kernel's offsets and device names are shown to be it.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Pipeline.Launch
public import Idealize.ShloMosaic.Lib.Pipeline.Kit
public import Idealize.ShloMosaic.Lib.Tactic

@[expose] public section

namespace Cert.KernelProof

open Cert.Kernel Cert.Kernel.Gen
open Idealize.ShloMosaic

/-- The plane of four devices a device in plane `z` serves in its `k`-th group of four steps: the two planes of the
    other half, then the neighbouring plane, then its own. -/
def plane (z k : ℕ) : ℕ :=
  if k = 0 then (if z < 2 then 3 else 0)
  else if k = 1 then (if z < 2 then 2 else 1)
  else if k = 2 then (if z % 2 = 0 then z + 1 else z - 1)
  else z

/-- The device whose column block device `c` computes at step `j` (itself at the last step). -/
def tgt (c : Dev nD) (j : ℕ) : Dev nD :=
  ⟨(plane (c.val / 4) (j / 4) * 4 + (c.val % 4 + j % 4 + (if j < 12 then 0 else 1)) % 4) % 16, Nat.mod_lt _ (by decide)⟩

/-- The device that receives signal `i` of the handshake of device `c`: the sixteen devices in order, from the one after `c`. -/
def nth (c : Dev nD) (i : ℕ) : Dev nD := ⟨(c.val + i + 1) % 16, Nat.mod_lt _ (by decide)⟩

/-- The last block is the device's own. -/
theorem tgt_last (c : Dev nD) : tgt c 15 = c := by revert c; decide +kernel

/-- The blocks sent away belong to other devices. -/
theorem tgt_ne (c : Dev nD) : ∀ j : Fin 15, tgt c j ≠ c := by revert c; decide +kernel

/-- No block is computed twice. -/
theorem tgt_inj (c : Dev nD) : ∀ i j : Fin 16, tgt c i = tgt c j → i = j := by revert c; decide +kernel

/-- Every device's block is computed. -/
theorem tgt_surj (c : Dev nD) : ∀ d : Dev nD, ∃ j : Fin 16, tgt c j = d := by revert c; decide +kernel

/-- A device does not signal itself. -/
theorem nth_ne (c : Dev nD) : ∀ j : Fin 15, nth c j ≠ c := by revert c; decide +kernel

/-- It signals no device twice, -/
theorem nth_inj (c : Dev nD) : ∀ i j : Fin 16, nth c i = nth c j → i = j := by revert c; decide +kernel

/-- and reaches all of them. -/
theorem nth_surj (c : Dev nD) : ∀ d : Dev nD, ∃ j : Fin 16, nth c j = d := by revert c; decide +kernel

/-- The sixteenth in signalling order is the device itself. -/
theorem nth_last (c : Dev nD) : nth c 15 = c := by revert c; decide +kernel

/-- The kernel's offsets into the matrix, step by step. -/
def colOff (c : Dev nD) : Fin 16 → Fin 2 → ℕ :=
  ![k0_off1 c 3#32 0#32 0#32, k0_off1 c 3#32 0#32 1#32, k0_off1 c 3#32 0#32 2#32, k0_off1 c 3#32 0#32 3#32,
    k0_off1 c 2#32 1#32 0#32, k0_off1 c 2#32 1#32 1#32, k0_off1 c 2#32 1#32 2#32, k0_off1 c 2#32 1#32 3#32,
    k0_off5 c 0#32, k0_off5 c 1#32, k0_off5 c 2#32, k0_off5 c 3#32,
    k0_off8 c 0#32, k0_off8 c 1#32, k0_off8 c 2#32, k0_off9 c]

/-- The kernel's offsets into the staging blocks, where a block is written, -/
def putOff (c : Dev nD) : Fin 15 → Fin 3 → ℕ :=
  ![k0_off2 c 3#32 0#32 0#32, k0_off2 c 3#32 0#32 1#32, k0_off2 c 3#32 0#32 2#32, k0_off2 c 3#32 0#32 3#32,
    k0_off2 c 2#32 1#32 0#32, k0_off2 c 2#32 1#32 1#32, k0_off2 c 2#32 1#32 2#32, k0_off2 c 2#32 1#32 3#32,
    k0_off6 c 0#32, k0_off6 c 1#32, k0_off6 c 2#32, k0_off6 c 3#32,
    k0_off10 c 0#32, k0_off10 c 1#32, k0_off10 c 2#32]

/-- and where it is sent from. -/
def sendOff (c : Dev nD) : Fin 15 → Fin 3 → ℕ :=
  ![k0_off4 c 3#32 0#32 0#32, k0_off4 c 3#32 0#32 1#32, k0_off4 c 3#32 0#32 2#32, k0_off4 c 3#32 0#32 3#32,
    k0_off4 c 2#32 1#32 0#32, k0_off4 c 2#32 1#32 1#32, k0_off4 c 2#32 1#32 2#32, k0_off4 c 2#32 1#32 3#32,
    k0_off7 c 0#32, k0_off7 c 1#32, k0_off7 c 2#32, k0_off7 c 3#32,
    k0_off11 c 0#32, k0_off11 c 1#32, k0_off11 c 2#32]

/-- The devices the kernel's fifteen sends name. -/
def sendDev (c : Dev nD) : Fin 15 → ℕ :=
  ![k0_dev16 c, k0_dev17 c, k0_dev18 c, k0_dev19 c, k0_dev20 c, k0_dev21 c, k0_dev22 c, k0_dev23 c,
    k0_dev24 c, k0_dev25 c, k0_dev26 c, k0_dev27 c, k0_dev28 c, k0_dev29 c, k0_dev30 c]

/-- The devices its fifteen signals name. -/
def signalDev (c : Dev nD) : Fin 15 → ℕ :=
  ![k0_dev1 c, k0_dev2 c, k0_dev3 c, k0_dev4 c, k0_dev5 c, k0_dev6 c, k0_dev7 c, k0_dev8 c,
    k0_dev9 c, k0_dev10 c, k0_dev11 c, k0_dev12 c, k0_dev13 c, k0_dev14 c, k0_dev15 c]

/-- Step `j` reads the column block of `tgt c j`. -/
theorem colOff_eq (c : Dev nD) : ∀ j : Fin 16, colOff c j = ![0, 512 * (tgt c j).val] := by revert c; decide +kernel

/-- Step `j` writes staging block `tgt c j`, -/
theorem putOff_eq (c : Dev nD) : ∀ j : Fin 15, putOff c j = ![(tgt c j).val, 0, 0] := by revert c; decide +kernel

/-- sends it, -/
theorem sendOff_eq (c : Dev nD) : ∀ j : Fin 15, sendOff c j = ![(tgt c j).val, 0, 0] := by revert c; decide +kernel

/-- and sends it to device `tgt c j`. -/
theorem sendDev_eq (c : Dev nD) : ∀ j : Fin 15, sendDev c j = (tgt c j).val := by revert c; decide +kernel

/-- Signal `i` goes to device `nth c i`. -/
theorem signalDev_eq (c : Dev nD) : ∀ j : Fin 15, signalDev c j = (nth c j).val := by revert c; decide +kernel

/-- What a device sends lands in the row block of its own number. -/
theorem rowOff_eq (c : Dev nD) : k0_off3 c = ![256 * c.val, 0] := by revert c; decide +kernel

/-- Its own block it stores in the same rows. -/
theorem ownOff_eq (c : Dev nD) : k0_off12 c = ![256 * c.val, 0] := by revert c; decide +kernel

end Cert.KernelProof

end
-- ==== Proof.Program.lean ====
/-
# The kernel's body as repeated steps

The kernel's body is printed with its loops unrolled: fifteen signals, sixteen steps, thirty waits. Here it is written
again with the repetitions as recursions over a step number, and the two texts are the same program by unfolding.
Everything later is proved about the recursions.
-/
module

public import proofs.«01_k».proof.Proof.Order

@[expose] public section

noncomputable section

namespace Cert.KernelProof

open Cert.Kernel Cert.Kernel.Gen
open Idealize.ShloMosaic Idealize.SL.Sem
open Idealize.ShloMosaic.TcCoe

variable {F : FTy → Type} [FloatOps F]

/-! ## The buffers and semaphores -/

/-- The staged rows of `x`, -/
abbrev xM : Memref sig .tc .vmem S256x4096 .f32 := Memref.whole cc0_stg0_0
/-- the matrix in main memory, -/
abbrev wM : Memref sig .tc .hbm S4096x8192 .f32 := Memref.whole main_arg1
/-- the first scale, -/
abbrev sxM : Memref sig .tc .smem S1 .f32 := Memref.whole cc0_stg1_0
/-- the second, -/
abbrev swM : Memref sig .tc .smem S1 .f32 := Memref.whole cc0_stg2_0
/-- the result, -/
abbrev oM : Memref sig .tc .vmem S4096x512 .bf16 := Memref.whole cc0_stg3_0
/-- the rounded rows of `x`, -/
abbrev xbM : Memref sig .tc .vmem S256x4096 .bf16 := Memref.whole cc0_scratch0
/-- the matrix buffer of four slots, -/
abbrev wbM : Memref sig .tc .vmem S4x4096x512 .f32 := Memref.whole cc0_scratch1
/-- and the staging buffer of sixteen blocks. -/
abbrev sM : Memref sig .tc .vmem S16x256x512 .bf16 := Memref.whole cc0_scratch2

/-- The barrier semaphore, -/
abbrev barS : Sem sig := (SemArray.scalar (sig.barrier 0 rfl) : Sems sig S_).sem
/-- the semaphore of the sends, -/
abbrev sendS : DmaSem sig := (cc0_scratch4 : DmaSems sig S_).sem
/-- and that of the arrivals. -/
abbrev recvS : DmaSem sig := (cc0_scratch5 : DmaSems sig S_).sem

/-- A slot lies in the matrix buffer, -/
theorem slot_inb (s : Fin 4) : ∀ a, (![s.val, 0, 0] : Fin 3 → ℕ) a + S1x4096x512.size a ≤ S4x4096x512.size a := by
  revert s; decide
/-- its semaphore in the array of four, -/
theorem wsem_inb (s : Fin 4) : ∀ a, (![s.val] : Fin 1 → ℕ) a + S1.size a ≤ S4.size a := by revert s; decide

/-- The semaphore of slot `s` of the matrix buffer. -/
abbrev wsem (s : Fin 4) : DmaSem sig :=
  (((cc0_scratch3 : DmaSems sig S4).slice (Rect.unit (s := S4) ![s.val] S1.size (wsem_inb s))).squeeze S_ squeezes_S1_S_).sem

/-! ## The rectangles -/

/-- a column block in the matrix, -/
theorem col_inb (p : Dev nD) : ∀ a, (![0, 512 * p.val] : Fin 2 → ℕ) a + S4096x512.size a ≤ S4096x8192.size a := by
  revert p; decide
/-- a block in the staging buffer, -/
theorem blk_inb (p : Dev nD) : ∀ a, (![p.val, 0, 0] : Fin 3 → ℕ) a + S1x256x512.size a ≤ S16x256x512.size a := by
  revert p; decide
/-- and a row block in the result. -/
theorem row_inb (p : Dev nD) : ∀ a, (![256 * p.val, 0] : Fin 2 → ℕ) a + S256x512.size a ≤ S4096x512.size a := by
  revert p; decide

/-- Column block `p` of the matrix. -/
abbrev colR (p : Dev nD) : Rect S4096x8192 := Rect.unit (s := S4096x8192) ![0, 512 * p.val] S4096x512.size (col_inb p)
/-- Slot `s` of the matrix buffer. -/
abbrev slotR (s : Fin 4) : Rect S4x4096x512 := Rect.unit (s := S4x4096x512) ![s.val, 0, 0] S1x4096x512.size (slot_inb s)
/-- Block `p` of the staging buffer. -/
abbrev blkR (p : Dev nD) : Rect S16x256x512 := Rect.unit (s := S16x256x512) ![p.val, 0, 0] S1x256x512.size (blk_inb p)
/-- Row block `p` of the result. -/
abbrev rowR (p : Dev nD) : Rect S4096x512 := Rect.unit (s := S4096x512) ![256 * p.val, 0] S256x512.size (row_inb p)
/-- The rectangle of the whole block of `x`. -/
abbrev xR : Rect S256x4096 := Rect.unit (s := S256x4096) ![0, 0] S256x4096.size inb_S256x4096_S256x4096_0_0
/-- The rectangle of one scale. -/
abbrev oneR : Rect S1 := Rect.unit (s := S1) ![0] S1.size inb_S1_S1_0

/-- The offsets the kernel computes are in range: of the column block fetched, -/
theorem colOff_inb (c : Dev nD) (j : Fin 16) : ∀ a, colOff c j a + S4096x512.size a ≤ S4096x8192.size a := by
  rw [colOff_eq]; exact col_inb _
/-- of the staging block written, -/
theorem putOff_inb (c : Dev nD) (j : Fin 15) : ∀ a, putOff c j a + S1x256x512.size a ≤ S16x256x512.size a := by
  rw [putOff_eq]; exact blk_inb _
/-- and of the staging block sent. -/
theorem sendOff_inb (c : Dev nD) (j : Fin 15) : ∀ a, sendOff c j a + S1x256x512.size a ≤ S16x256x512.size a := by
  rw [sendOff_eq]; exact blk_inb _
/-- The device a block is sent to is one of the sixteen, -/
theorem sendDev_lt (c : Dev nD) (j : Fin 15) : sendDev c j < nD := by rw [sendDev_eq]; exact Fin.isLt _
/-- and so is the device signalled. -/
theorem signalDev_lt (c : Dev nD) (j : Fin 15) : signalDev c j < nD := by rw [signalDev_eq]; exact Fin.isLt _

/-- The staging block written at step `j`, -/
abbrev PutR (c : Dev nD) (j : Fin 15) : Rect S16x256x512 := Rect.unit (s := S16x256x512) (putOff c j) S1x256x512.size (putOff_inb c j)
/-- and the one sent. -/
abbrev SendR (c : Dev nD) (j : Fin 15) : Rect S16x256x512 := Rect.unit (s := S16x256x512) (sendOff c j) S1x256x512.size (sendOff_inb c j)

/-- A staging block is made of whole packed rows, -/
theorem blk_packed : ∀ p : Dev nD, (blkR p).PackedRows (EltTy.packing .bf16) := by decide +kernel
/-- of whole words, -/
theorem blk_words : ∀ p : Dev nD, (blkR p).WholeWords (EltTy.packing .bf16) := by decide +kernel

/-- A staging block consists of whole packed rows, -/
theorem put_packed (c : Dev nD) (j : Fin 15) : (PutR c j).PackedRows (EltTy.packing .bf16) := by
  have : PutR c j = blkR (tgt c j) := by unfold PutR blkR; congr 1; exact putOff_eq c j
  rw [this]; exact blk_packed _
/-- and of whole words. -/
theorem send_words (c : Dev nD) (j : Fin 15) : (SendR c j).WholeWords (EltTy.packing .bf16) := by
  have : SendR c j = blkR (tgt c j) := by unfold SendR blkR; congr 1; exact sendOff_eq c j
  rw [this]; exact blk_words _

/-! ## The program -/

/-- A program of the kernel that returns nothing. -/
abbrev Code (F : FTy → Type) [FloatOps F] : Type 1 := Prog (TpuEff nD τ sig (Elt F) Λ₀ .tc) PUnit.{1}

/-- The columns a step copies, by the kernel's own offsets. -/
abbrev colV (c : Dev nD) (j : Fin 16) : Memref sig .tc .hbm S4096x512 .f32 :=
  wM.slice (Rect.unit (s := S4096x8192) (colOff c j) S4096x512.size (colOff_inb c j)) (fun _ => rfl)
/-- A slot of the matrix buffer as a matrix. -/
abbrev slotV (s : Fin 4) : Memref sig .tc .vmem S4096x512 .f32 :=
  (wbM.slice (slotR s) (fun _ => rfl)).squeeze S4096x512 squeezes_S1x4096x512_S4096x512
/-- The rows of its own number. -/
abbrev rowV (c : Dev nD) : Memref sig .tc .vmem S256x512 .bf16 :=
  oM.slice (Rect.unit (s := S4096x512) (k0_off3 c) S256x512.size (k0_off3_inb c)) (fun _ => rfl)
/-- The staging block a step sends. -/
abbrev sendV (c : Dev nD) (j : Fin 15) : Memref sig .tc .vmem S256x512 .bf16 :=
  (sM.slice (SendR c j) (fun _ => rfl)).squeeze S256x512 squeezes_S1x256x512_S256x512

/-- The slot of the matrix buffer step `j` uses. -/
abbrev slotOf (j : ℕ) : Fin 4 := Fin.ofNat 4 j

/-- Start copying the columns of step `j` into its slot. -/
def fetchP (c : Dev nD) (j : ℕ) (k : Code F) : Code F :=
  Prog.op (.enqueueDma (colV c (Fin.ofNat 16 j)) (.here (slotV (slotOf j))) (.dma (wsem (slotOf j))) (View.wordExact_bits rfl)
    ((View.wordExact_bits rfl).reshape _ _) ⟨Or.inl rfl, trivial⟩) fun _ => k

/-- Wait for that copy. -/
def drainP (c : Dev nD) (j : ℕ) (k : Code F) : Code F :=
  Prog.op (.waitDma2 (wsem (slotOf j)) (colV c (Fin.ofNat 16 j)) (slotV (slotOf j)) (View.wordExact_bits rfl)
    ((View.wordExact_bits rfl).reshape _ _)) fun _ => k

/-- Read the rounded block of `x` and the slot of step `j`. -/
def readP (j : ℕ) (k : Vec F S256x4096 .bf16 → Vec F S1x4096x512 .f32 → Code F) : Code F :=
  Prog.op (.load xbM xR.toLoadRect (View.loadsAt_vmem h_S256x4096)) fun xb =>
    Prog.op (.load wbM (slotR (slotOf j)).toLoadRect (View.loadsAt_vmem h_S1x4096x512)) fun wb => k xb wb

/-- Write a block of the result into its staging block and send it to the rows of this device's number on the device
    whose columns they are. -/
def shipP (c : Dev nD) (j : Fin 15) (v : Vec F S1x256x512 .bf16) (k : Code F) : Code F :=
  Prog.op (.load sM (PutR c j).toLoadRect (View.loadsAt_vmem h_S1x256x512)) fun _ =>
  Prog.op (.store sM (PutR c j) v Finset.univ (View.stores_vmem h_S1x256x512 ((Memref.isWhole_whole cc0_scratch2).storeExact_slice rfl _ (put_packed c j)) (fun _ => rfl)) (.inl rfl)) fun _ =>
  Prog.op (.enqueueDma (sendV c j) (.remote (Dev.tc (⟨sendDev c j, sendDev_lt c j⟩ : Dev nD)) (rowV c) (.dma sendS)) (.dma recvS)
    (((Memref.isWhole_whole cc0_scratch2).wordExact_slice rfl _ (send_words c j)).reshape _ _)
    ((Memref.isWhole_whole cc0_stg3_0).wordExact_slice rfl _ (k0_off3_wordsbf16 c)) ⟨⟨rfl, Or.inl rfl⟩, trivial⟩) fun _ => k

/-- Step `j < 15`: start the copy three steps ahead while there is one, compute a block and send it. -/
def stepP (c : Dev nD) (s : F .f32) (j : ℕ) (k : Code F) : Code F :=
  let rest := drainP c j (readP j fun xb wb => shipP c (Fin.ofNat 15 j) (k0_pay3 s xb wb) k)
  if j < 13 then fetchP c (j + 3) rest else rest

/-- The last step: the device's own block, stored in place. -/
def ownP (c : Dev nD) (s : F .f32) (k : Code F) : Code F :=
  drainP c 15 (readP 15 fun xb wb =>
    Prog.op (.load oM (Rect.unit (s := S4096x512) (k0_off12 c) S256x512.size (k0_off12_inb c)).toLoadRect (View.loadsAt_vmem h_S256x512)) fun _ =>
    Prog.op (.store oM (Rect.unit (s := S4096x512) (k0_off12 c) S256x512.size (k0_off12_inb c)) (k0_pay24 s xb wb) Finset.univ
      (View.stores_vmem h_S256x512 ((Memref.isWhole_whole cc0_stg3_0).storeExact_slice rfl _ (k0_off12_packedbf16 c)) (fun _ => rfl)) (.inl rfl)) fun _ => k)

/-- `n` steps from step `j`. -/
def stepsP (c : Dev nD) (s : F .f32) : ℕ → ℕ → Code F → Code F
  | 0, _, k => k
  | n + 1, j, k => stepP c s j (stepsP c s n (j + 1) k)

/-- `n` signals of the handshake from number `i`. -/
def signalsP (c : Dev nD) : ℕ → ℕ → Code F → Code F
  | 0, _, k => k
  | n + 1, i, k => Prog.op (.semSignal (Dev.tc (⟨signalDev c (Fin.ofNat 15 i), signalDev_lt c _⟩ : Dev nD)) barS (1#32).toInt) fun _ => signalsP c n (i + 1) k

/-- The row block the last waits name, -/
abbrev row0V : Memref sig .tc .vmem S256x512 .bf16 :=
  oM.slice (Rect.unit (s := S4096x512) ![0, 0] S256x512.size inb_S4096x512_S256x512_0_0) (fun _ => rfl)
/-- and the staging block they name. -/
abbrev blk0V : Memref sig .tc .vmem S256x512 .bf16 :=
  (sM.slice (Rect.unit (s := S16x256x512) ![0, 0, 0] S1x256x512.size inb_S16x256x512_S1x256x512_0_0_0) (fun _ => rfl)).squeeze S256x512 squeezes_S1x256x512_S256x512
/-- Both consist of whole words: the row block -/
theorem row0_exact : row0V.view.WordExact := (Memref.isWhole_whole cc0_stg3_0).wordExact_slice rfl _ wordsbf16_S4096x512_S256x512_0_0
/-- and the staging block. -/
theorem blk0_exact : blk0V.view.WordExact := ((Memref.isWhole_whole cc0_scratch2).wordExact_slice rfl _ wordsbf16_S16x256x512_S1x256x512_0_0_0).reshape _ _

/-- `n` waits for the arrival of one block each. -/
def recvsP : ℕ → Code F → Code F
  | 0, k => k
  | n + 1, k => Prog.op (.waitDma2 recvS blk0V row0V blk0_exact row0_exact) fun _ => recvsP n k

/-- `n` waits for the departure of one block each. -/
def sendsP : ℕ → Code F → Code F
  | 0, k => k
  | n + 1, k => Prog.op (.waitDma2 sendS row0V blk0V row0_exact blk0_exact) fun _ => sendsP n k

/-- Everything after the device number and the scales are known. -/
def mainP (c : Dev nD) (s : F .f32) : Code F :=
  fetchP c 0 <| fetchP c 1 <| fetchP c 2 <|
  Prog.op (.load xM xR.toLoadRect (View.loadsAt_vmem h_S256x4096)) fun x =>
  Prog.op (.load xbM xR.toLoadRect (View.loadsAt_vmem h_S256x4096)) fun _ =>
  Prog.op (.store xbM xR (k0_pay2 x) Finset.univ (View.stores_vmem h_S256x4096 ((Memref.isWhole_whole cc0_scratch0).storeExact_slice rfl _ packedbf16_S256x4096_S256x4096_0_0) (fun _ => rfl)) (.inl rfl)) fun _ =>
  signalsP c 15 0 <|
  Prog.op (.semWait barS (15#32).toInt) fun _ =>
  stepsP c s 15 0 <| ownP c s <| recvsP 15 <| sendsP 15 <| Prog.ret ⟨⟩

/-- The whole body. -/
def bodyP : Code F :=
  Prog.op .deviceId fun d =>
  Prog.op (.load sxM oneR.toLoadRect (View.loadsAt_rect (View.loads_smem_one rfl numel1_S1))) fun a =>
  Prog.op (.load swM oneR.toLoadRect (View.loadsAt_rect (View.loads_smem_one rfl numel1_S1))) fun b =>
  mainP d (k0_pay1 (a (Shape.Idx.first (numel1_S1.symm ▸ Nat.one_pos))) (b (Shape.Idx.first (numel1_S1.symm ▸ Nat.one_pos))))

set_option maxRecDepth 100000 in
set_option maxHeartbeats 4000000 in
/-- The printed body is this program. -/
theorem body_eq : cc0_body (F := F) xM (Memref.isWhole_whole _) wM (Memref.isWhole_whole _) sxM (Memref.isWhole_whole _)
    swM (Memref.isWhole_whole _) oM (Memref.isWhole_whole _) xbM (Memref.isWhole_whole _) wbM (Memref.isWhole_whole _)
    sM (Memref.isWhole_whole _) cc0_scratch3 cc0_scratch4 cc0_scratch5 = bodyP := rfl

end Cert.KernelProof

end
-- ==== Proof.Algebra.lean ====
/-
# The resources the proof is about

Ghost state in three parts: the pipeline library's own, the rounds of the handshake and of the exchange (duties named
by devices), and the counters that account for copies within a device.
-/
module

public import proofs.«01_k».proof.Proof.Program
public import Idealize.ShloMosaic.Lib.Transfers
public import Idealize.ShloMosaic.Lib.ViewIndex

@[expose] public section

noncomputable section

namespace Cert.KernelProof

open Cert.Kernel Cert.Kernel.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state of the exchange's rounds, -/
abbrev UB : Type := URounds (GSem nD τ sig) (Dev nD)
/-- and all of the ghost state: the pipeline's, the exchange's, and counters for copies a device makes itself. -/
abbrev UU : Type := UR sig nD τ × (UB × Counters)

/-- The assertions of this proof. -/
abbrev Res (F : FTy → Type) : Type := MT nD τ sig Unit (Elt F) ℕ UU ℕ

/-- Where the pipeline's part lies. -/
abbrev EP : Emb (UR sig nD τ) (Res F) := embL
/-- Where the rounds live. -/
def ER : Emb UB (Res F) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
/-- The exchange's part may be kept in invariants. -/
instance ER_landsIn : (ER : Emb UB (Res F)).LandsIn (upEmb : UEmb _ (Res F)) := by unfold ER; infer_instance
/-- Where the counters live. -/
abbrev EC : UEmb Counters (Res F) := countersEmb

/-- No loop needs a measure. -/
abbrev 𝒱₀ : Variants := Variants.none

/-- The weakest precondition of the kernel's code on device `c`. -/
abbrev wpK (c : Dev nD) {α : Type} (p : Prog (TpuEff nD τ sig (Elt F) Λ₀ .tc) α) (Q : α → sProp (Res F)) : sProp (Res F) :=
  wp frame (wpE (defs₀ (F := F)) 𝒱₀ (c : Thread nD τ) none) Set.univ p Q

end Cert.KernelProof

end
-- ==== Proof.Owned.lean ====
/-
# Steps of a device on parts of buffers it owns

Each rule says what one memory operation does to the part of a buffer it touches, the part named by the reference the
operation itself goes through and its contents by what that reference reads.
-/
module

public import proofs.«01_k».proof.Proof.Algebra

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => Res F

/-- A part of a buffer of device `c` held outright, reading `X`. -/
abbrev own (c : Dev nD) {sp : Space} {s : Shape} {e : EltTy} (m : Memref sig .tc sp s e) (X : s.Idx → Elt F e) : sProp 𝕄 :=
  owns (Ix := Unit) (Name := ℕ) (U := UU) (Lvl := ℕ) (c : Thread nD τ) m fullShare X

/-- The same with whatever it reads. -/
abbrev ownAny (F : FTy → Type) (c : Dev nD) {sp : Space} {s : Shape} {e : EltTy} (m : Memref sig .tc sp s e) : sProp (Res F) :=
  iprop(∃ X, own c m X)

omit [FloatOps F] in
/-- Dropping unit axes leaves the elements a reference covers. -/
theorem squeeze_pts (c : Dev nD) {sp : Space} {s s' : Shape} {e : EltTy} (m : Memref sig .tc sp s e) (h : s.Squeezes s')
    (f : Buf (Elt F) (m.view.loc (c : Thread nD τ))) :
    ((m.squeeze s' h).view.loc (c : Thread nD τ) ↦[(m.squeeze s' h).view.set]{fullShare} f : sProp 𝕄)
      = (m.view.loc (c : Thread nD τ) ↦[m.view.set]{fullShare} f) :=
  congrArg (fun S => (m.view.loc (c : Thread nD τ) ↦[S]{fullShare} f : sProp 𝕄)) (View.set_reshape (v := m.view) h.numel_eq)

omit [FloatOps F] in
/-- A reference with its unit axes dropped owns what the reference does, read at matching indices. -/
theorem own_squeeze (c : Dev nD) {sp : Space} {s s' : Shape} {e : EltTy} (m : Memref sig .tc sp s e) (h : s.Squeezes s')
    (X : s.Idx → Elt F e) : own c m X ⊢ own c (m.squeeze s' h) fun i => X (Shape.reshapeEquiv h.numel_eq i) := by
  unfold own owns
  iintro ⟨%f, %hf, H⟩
  iexists f
  isplitr
  · ipureintro; subst hf; rfl
  · iapply (Entails.of_eq (squeeze_pts c m h f).symm); iexact H

omit [FloatOps F] in
/-- Putting the unit axes back. -/
theorem own_unsqueeze (c : Dev nD) {sp : Space} {s s' : Shape} {e : EltTy} (m : Memref sig .tc sp s e) (h : s.Squeezes s')
    (X : s'.Idx → Elt F e) : own c (m.squeeze s' h) X ⊢ own c m fun i => X ((Shape.reshapeEquiv h.numel_eq).symm i) := by
  unfold own owns
  iintro ⟨%f, %hf, H⟩
  iexists f
  isplitr
  · ipureintro; subst hf; funext i
    show _ = m.view.read (Elt F) f (Shape.reshapeEquiv h.numel_eq ((Shape.reshapeEquiv h.numel_eq).symm i))
    rw [Equiv.apply_symm_apply]
  · iapply (Entails.of_eq (squeeze_pts c m h f)); iexact H

section Rules

variable (c : Dev nD) {Q : PUnit.{1} → sProp (Res F)}

/-- Reading a rectangle of a buffer owned there. -/
theorem own_load {cs : CoreSpace} {s : Shape} {e : EltTy} {m : Memref sig .tc cs s e} {r : Rect s} (hr : ∀ a, r.stride a = 1)
    {hl : m.view.LoadsAt r} {k : (r.shape.Idx → Elt F e) → Code F} (X : r.shape.Idx → Elt F e) :
    own c (m.slice r hr) X ⊢ iprop((own c (m.slice r hr) X -∗ wpK c (k X) Q) -∗ wpK c (.op (.load m r.toLoadRect hl) k) Q) := by
  unfold own owns
  iintro ⟨%f, %hf, H⟩ Hk
  iapply (wp_load_rect 𝒱₀ (c : Thread nD τ) none Set.univ (m := m) (r := r) (S := (m.access r).set) (f := f) (Finset.Subset.refl _)) $$ H
  iintro H
  rw [show (m.access r).read (Elt F) f = X from hf]
  iapply Hk
  iexists f
  isplitr; · ipureintro; exact hf
  iexact H

/-- Storing to a rectangle of a buffer owned there. -/
theorem own_store {cs : CoreSpace} {s : Shape} {e : EltTy} {m : Memref sig .tc cs s e} {r : Rect s} (hr : ∀ a, r.stride a = 1)
    {w : r.shape.Idx → Elt F e} {hx : (m.access r).Stores Finset.univ} {hm} {k : PUnit → Code F} (X : r.shape.Idx → Elt F e) :
    own c (m.slice r hr) X
      ⊢ iprop((own c (m.slice r hr) w -∗ wpK c (k ⟨⟩) Q) -∗ wpK c (.op (.store m r w Finset.univ hx hm) k) Q) := by
  unfold own owns
  iintro ⟨%f, -, H⟩ Hk
  iapply (wp_store 𝒱₀ (c : Thread nD τ) none Set.univ (m := m) (r := r) (Mk := Finset.univ) (S := (m.access r).set) (f := f)
    (by rw [View.setOn_univ])) $$ H
  iintro H
  iapply Hk
  iexists _
  isplitr; · ipureintro; exact View.read_write_univ (v := m.access r) f w
  iexact H

/-- Starting a copy between two owned parts of the device's buffers on a semaphore held at zero. -/
theorem own_copy {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {k : PUnit → Code F} (N : ℕ) (hN : dst.view.amount sm = N) (hN0 : 0 < N) (X Y : s.Idx → Elt F e) :
    iprop(own c src X ∗ own c dst Y ∗ semVal ((c : Thread nD τ), sm) 0)
      ⊢ iprop((Transfers.Flight EC (c : Thread nD τ) sm () N iprop(own c dst X ∗ own c src X) -∗ wpK c (k ⟨⟩) Q)
          -∗ wpK c (.op (.enqueueDma src (.here dst) sm hsrc hdst hsem) k) Q) := by
  unfold own owns
  iintro ⟨⟨%fs, %hfs, Hs⟩, ⟨%fd, -, Hd⟩, Hv⟩ Hk
  have hD : iprop((dst.view.loc (c : Thread nD τ) ↦[dst.view.set]{fullShare}
          (dst.view.write (Elt F) fd (src.view.read (Elt F) fs) Finset.univ))
        ∗ (src.view.loc (c : Thread nD τ) ↦[src.view.set]{fullShare} fs))
      ⊢ (iprop((∃ f, ⌜dst.view.read (Elt F) f = X⌝ ∗ dst.view.loc (c : Thread nD τ) ↦[dst.view.set]{fullShare} f)
        ∗ ∃ f, ⌜src.view.read (Elt F) f = X⌝ ∗ src.view.loc (c : Thread nD τ) ↦[src.view.set]{fullShare} f) : sProp 𝕄) := by
    iintro ⟨Hd, Hs⟩
    isplitl [Hd]
    · iexists (dst.view.write (Elt F) fd (src.view.read (Elt F) fs) Finset.univ)
      isplitr
      · ipureintro; rw [← hfs]; exact View.read_write_univ (v := dst.view) _ _
      iexact Hd
    · iexists fs
      isplitr; · ipureintro; exact hfs
      iexact Hs
  iapply (Transfers.wp_dmaLocal EC 𝒱₀ (c : Thread nD τ) none () N hN hN0 (Finset.Subset.refl _)) $$ [Hs Hd Hv]
  · isplitl [Hs]; · iexact Hs
    isplitl [Hd]; · iexact Hd
    iexact Hv
  iintro Hf
  iapply Hk
  iapply (Transfers.Flight_mono (c := (c : Thread nD τ)) (EC := EC) hD) $$ Hf

/-- Sending an owned part to an owned part of another device: the sender keeps the right to wait for the departure, and
    each of the two cells is paid what its duty asks for. -/
theorem own_send {E : Emb UB 𝕄} [E.LandsIn (upEmb : UEmb _ 𝕄)] (Rd : Schedule (GSem nD τ sig) (Dev nD) 𝕄)
    [∀ g r d, BI.Storable (upEmb : UEmb _ 𝕄) (Rd.payload g r d)] (c' : Dev nD)
    {sp sp' : Space} {s : Shape} {e : EltTy} {src : Memref sig .tc sp s e} {dst : Memref sig .tc sp' s e}
    {hsc : dst.view.ref.isScScratch = false} {sS sem : SemLoc sig}
    {hsrc : src.view.WordExact} {hdst : dst.view.WordExact}
    {hsem : DmaTarget.Typed (p := .tc) sp sem (.remote (Dev.tc c' : Thread nD τ) dst sS hsc)} {k : PUnit → Code F} {κ₁ κ₂ : ℕ} {d₁ d₂ : Dev nD}
    (hd₁ : d₁ ∈ Rd.duties ((c : Thread nD τ), sS) 0) (hd₂ : d₂ ∈ Rd.duties ((c' : Thread nD τ), sem) 0)
    (N : ℕ) (hN : dst.view.amount sem = N)
    (hk₁ : Rd.amount ((c : Thread nD τ), sS) 0 d₁ = N) (hk₂ : Rd.amount ((c' : Thread nD τ), sem) 0 d₂ = N)
    {O₀ : CellTallies nD τ sig Unit} (O : CellTallies nD τ sig Unit) (hO : O₀ = O + tallyAt ((c' : Thread nD τ), sem) () N)
    {W : Waits sig Unit} (X Y : s.Idx → Elt F e)
    (hpay₁ : own c src X ⊢ Rd.payload ((c : Thread nD τ), sS) 0 d₁)
    (hpay₂ : own c' dst X ⊢ Rd.payload ((c' : Thread nD τ), sem) 0 d₂) :
    iprop(cellInv E Rd κ₁ ((c : Thread nD τ), sS) ∗ cellInv E Rd κ₂ ((c' : Thread nD τ), sem)
        ∗ own c src X ∗ own c' dst Y ∗ owes (c : Thread nD τ) O₀ W
        ∗ dutyTok E ((c : Thread nD τ), sS) 0 d₁ ∗ reached E ((c : Thread nD τ), sS) 0
        ∗ dutyTok E ((c' : Thread nD τ), sem) 0 d₂ ∗ reached E ((c' : Thread nD τ), sem) 0)
      ⊢ iprop(((cred (tallyAt ((c : Thread nD τ), sS) () N) ∗ owes (c : Thread nD τ) O W) -∗ wpK c (k ⟨⟩) Q)
          -∗ wpK c (.op (.enqueueDma src (.remote (Dev.tc c') dst sS hsc) sem hsrc hdst hsem) k) Q) := by
  iintro ⟨H1, H2, Hs, Hd, HO, Ht1, Hr1, Ht2, Hr2⟩
  ihave Hs' := (show own c src X ⊢ iprop(∃ f, ⌜src.view.read (Elt F) f = X⌝ ∗ (src.view.loc (c : Thread nD τ) ↦[src.view.set]{fullShare} f)) from .rfl) $$ Hs
  ihave Hd' := (show own c' dst Y ⊢ iprop(∃ f, ⌜dst.view.read (Elt F) f = Y⌝ ∗ (dst.view.loc (c' : Thread nD τ) ↦[dst.view.set]{fullShare} f)) from .rfl) $$ Hd
  icases Hs' with ⟨%fs, %hfs, Hs⟩
  icases Hd' with ⟨%fd, -, Hd⟩
  iapply (Rounds.wp_send_pointsTo 𝒱₀ E Rd (c : Thread nD τ) none (c' := (c' : Thread nD τ)) (κ₁ := κ₁) (κ₂ := κ₂) (r₁ := 0) (r₂ := 0)
    (d₁ := d₁) (d₂ := d₂) hd₁ hd₂ () () N hN hk₁ hk₂ O hO
    ((owns_intro (c : Thread nD τ) src fullShare fs).trans (by rw [hfs]; exact hpay₁))
    ((owns_intro (c' : Thread nD τ) dst fullShare (dst.view.write (Elt F) fd (src.view.read (Elt F) fs) Finset.univ)).trans
      (by rw [View.read_write_univ (v := dst.view), hfs]; exact hpay₂)))
  isplitl [H1]; · iexact H1
  isplitl [H2]; · iexact H2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

end Rules

end Cert.KernelProof

end
-- ==== Proof.Contents.lean ====
/-
# What every buffer holds

The values a device computes, as functions of the memory at the launch.
-/
module

public import proofs.«01_k».proof.Proof.Owned

@[expose] public section

noncomputable section

namespace Cert.KernelProof

open Cert.Kernel Cert.Kernel.Gen
open Idealize.ShloMosaic Idealize.ShloMosaic.TcCoe

variable {F : FTy → Type} [FloatOps F]

/-! ## The parts of the buffers -/

/-- Row block `p` of the result. -/
abbrev rowM (p : Dev nD) : Memref sig .tc .vmem S256x512 .bf16 := oM.slice (rowR p) (fun _ => rfl)
/-- Block `p` of the staging buffer. -/
abbrev blkM (p : Dev nD) : Memref sig .tc .vmem S1x256x512 .bf16 := sM.slice (blkR p) (fun _ => rfl)
/-- The same as a matrix. -/
abbrev blkV (p : Dev nD) : Memref sig .tc .vmem S256x512 .bf16 := (blkM p).squeeze S256x512 squeezes_S1x256x512_S256x512
/-- Slot `s` of the matrix buffer. -/
abbrev slotM (s : Fin 4) : Memref sig .tc .vmem S1x4096x512 .f32 := wbM.slice (slotR s) (fun _ => rfl)
/-- Column block `p` of the matrix. -/
abbrev colM (p : Dev nD) : Memref sig .tc .hbm S4096x512 .f32 := wM.slice (colR p) (fun _ => rfl)

/-- Slices at equal offsets are equal. -/
theorem slice_congr {sp : Space} {s : Shape} {e : EltTy} (m : Memref sig .tc sp s e) {off off' : Fin s.rank → ℕ} {n : Fin s.rank → ℕ}
    (h : off = off') (i : ∀ a, off a + n a ≤ s.size a) (i' : ∀ a, off' a + n a ≤ s.size a) :
    m.slice (Rect.unit off n i) (fun _ => rfl) = m.slice (Rect.unit off' n i') (fun _ => rfl) := by
  subst h; rfl

/-- Step `j` fetches the column block of its target, -/
theorem colV_eq (c : Dev nD) (j : Fin 16) : colV c j = colM (tgt c j) := slice_congr wM (colOff_eq c j) _ _
/-- a device sends to the row block of its own number, -/
theorem rowV_eq (c : Dev nD) : rowV c = rowM c := slice_congr oM (rowOff_eq c) _ _
/-- and sends from the staging block of the target. -/
theorem sendV_eq (c : Dev nD) (j : Fin 15) : sendV c j = blkV (tgt c j) := by
  unfold sendV blkV; rw [show sM.slice (SendR c j) (fun _ => rfl) = blkM (tgt c j) from slice_congr sM (sendOff_eq c j) _ _]

/-! ## The values -/

variable (m : (ℓ : Loc nD τ sig) → Buf (Elt F) ℓ)

/-- A device's rows of `x` as staged, -/
def xIn (c : Dev nD) : (cc0_stg0_0 : Ref sig .tc).ty.Contents (Elt F) :=
  (win0_0.blk (0 : Fin 1)).view.read (Elt F) (m ((c : Thread nD τ).loc main_arg0))
/-- the first scale, -/
def sxIn (c : Dev nD) : (cc0_stg1_0 : Ref sig .tc).ty.Contents (Elt F) :=
  (win0_1.blk (0 : Fin 1)).view.read (Elt F) (m ((c : Thread nD τ).loc main_arg2))
/-- the second. -/
def swIn (c : Dev nD) : (cc0_stg2_0 : Ref sig .tc).ty.Contents (Elt F) :=
  (win0_2.blk (0 : Fin 1)).view.read (Elt F) (m ((c : Thread nD τ).loc main_arg3))

/-- The one index of a scale. -/
abbrev one0 : S1.Idx := Shape.Idx.first (numel1_S1.symm ▸ Nat.one_pos)
/-- The product of the scales. -/
def scl (c : Dev nD) : F .f32 := k0_pay1 (sxIn m c one0) (swIn m c one0)
/-- The rounded rows of `x`. -/
def xb (c : Dev nD) : Vec F S256x4096 .bf16 := k0_pay2 (xIn m c)
/-- Column block `p` of a device's matrix, -/
def colW (c p : Dev nD) : S4096x512.Idx → Elt F .f32 := fun i => m ((c : Thread nD τ).loc main_arg1) ((colR p).emb i)
/-- and as a slot of the matrix buffer holds it. -/
def slotW (c p : Dev nD) : Vec F S1x4096x512 .f32 :=
  fun i => colW m c p ((Shape.reshapeEquiv squeezes_S1x4096x512_S4096x512.numel_eq).symm i)
/-- Device `c`'s block of the result for the columns of device `p`, as staged, -/
def chunk1 (c p : Dev nD) : Vec F S1x256x512 .bf16 := k0_pay3 (scl m c) (xb m c) (slotW m c p)
/-- and as a matrix. -/
def chunk (c p : Dev nD) : S256x512.Idx → Elt F .bf16 :=
  fun i => chunk1 m c p (Shape.reshapeEquiv squeezes_S1x256x512_S256x512.numel_eq i)

/-- The block a device keeps is computed the same way. -/
theorem chunk_own (c p : Dev nD) : k0_pay24 (scl m c) (xb m c) (slotW m c p) = chunk m c p := by
  funext i
  show _ = k0_pay24 (scl m c) (xb m c) (slotW m c p) (Shape.reshapeEquiv _ (Shape.reshapeEquiv _ i))
  rw [Shape.reshapeEquiv_reshapeEquiv, Shape.reshapeEquiv_self]

end Cert.KernelProof

end
-- ==== Proof.Exchange.lean ====
/-
# What devices pay one another

Each device has three counters others raise. The barrier counter is raised once by every other device, whose signal
hands over the rows of that device's result which this device is going to write. The receive counter is raised by every
other device's copy, which hands over the written rows. The send counter is raised by this device's own copies, which
hand back the staging blocks they read.
-/
module

public import proofs.«01_k».proof.Proof.Contents

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => Res F

/-! ## The counters -/

/-- The barrier counter of a device, -/
abbrev barCell (c : Dev nD) : GSem nD τ sig := ((c : Thread nD τ), .reg barS)
/-- its send counter, -/
abbrev sendCell (c : Dev nD) : GSem nD τ sig := ((c : Thread nD τ), .dma sendS)
/-- and its receive counter. -/
abbrev recvCell (c : Dev nD) : GSem nD τ sig := ((c : Thread nD τ), .dma recvS)

/-- The three counters of the exchange. -/
abbrev csem : Fin 3 → SemLoc sig := fun | 0 => .reg barS | 1 => .dma sendS | 2 => .dma recvS
/-- The counters of all devices. -/
abbrev kcell (ck : Dev nD × Fin 3) : GSem nD τ sig := ((ck.1 : Thread nD τ), csem ck.2)

/-- What a copy of one block raises a counter by. -/
abbrev N : ℕ := row0V.view.dmaCredit
/-- A block raises a counter by something. -/
theorem N_pos : 0 < N := View.dmaCredit_pos _ (by decide)

/-- The send counter is not the barrier's, -/
theorem send_ne_bar : (SemLoc.dma sendS : SemLoc sig) ≠ .reg barS := fun h => by cases h
/-- nor is the receive counter, -/
theorem recv_ne_bar : (SemLoc.dma recvS : SemLoc sig) ≠ .reg barS := fun h => by cases h
/-- and those two differ. -/
theorem send_ne_recv : (SemLoc.dma sendS : SemLoc sig) ≠ .dma recvS := by decide

/-! ## The schedule -/

variable (m : (ℓ : Loc nD τ sig) → Buf (Elt F) ℓ)

/-- Each counter is raised in one round, once by (or for) every other device. -/
def xch : Schedule (GSem nD τ sig) (Dev nD) 𝕄 where
  duties g r := if r = 0 ∧ g.1.2 = .tc ∧ (∃ k, g.2 = csem k) then Finset.univ.erase g.1.1 else ∅
  unitless _ := False
  amount g _ _ := if g.2 = .reg barS then 1 else N
  payload g _ d :=
    if g.2 = .reg barS then ownAny F d (rowM g.1.1)
    else if g.2 = .dma recvS then own g.1.1 (rowM d) (chunk m d g.1.1)
    else if g.2 = .dma sendS then ownAny F g.1.1 (blkM d)
    else iprop(emp)
  amount_pos g _ _ _ := by
    by_cases h : g.2 = .reg barS
    · rw [if_pos h]; exact Nat.one_pos
    · rw [if_neg h]; exact N_pos

/-- What a payment hands over may be kept in an invariant. -/
instance xch_storable (g : GSem nD τ sig) (r : ℕ) (d : Dev nD) :
    BI.Storable (upEmb : UEmb _ 𝕄) ((xch (F := F) m).payload g r d) := by
  show BI.Storable upEmb (if g.2 = .reg barS then ownAny F d (rowM g.1.1)
    else if g.2 = .dma recvS then own g.1.1 (rowM d) (chunk m d g.1.1)
    else if g.2 = .dma sendS then ownAny F g.1.1 (blkM d)
    else iprop(emp))
  unfold ownAny own
  (repeat' split) <;> infer_instance

section Facts
variable (c : Dev nD)

/-- Every other device has a duty on each counter of a device: -/
theorem duties_k (k : Fin 3) : (xch m).duties (kcell (c, k)) 0 = Finset.univ.erase c := by
  dsimp only [xch]; exact if_pos ⟨rfl, rfl, k, rfl⟩
/-- on the barrier counter, -/
theorem duties_bar : (xch m).duties (barCell c) 0 = Finset.univ.erase c := duties_k m c 0
/-- on the send counter, -/
theorem duties_send : (xch m).duties (sendCell c) 0 = Finset.univ.erase c := duties_k m c 1
/-- and on the receive counter. -/
theorem duties_recv : (xch m).duties (recvCell c) 0 = Finset.univ.erase c := duties_k m c 2
/-- There is only one round. -/
theorem duties_later (g : GSem nD τ sig) : ∀ r, 1 ≤ r → (xch m).duties g r = ∅ :=
  fun r hr => by dsimp only [xch]; rw [if_neg fun h => by omega]
/-- A signal is one unit, -/
theorem amount_bar (d : Dev nD) : (xch m).amount (barCell c) 0 d = 1 := by dsimp only [xch]; exact if_pos rfl
/-- a copy that has been read one block, -/
theorem amount_send (d : Dev nD) : (xch m).amount (sendCell c) 0 d = N := by dsimp only [xch]; exact if_neg send_ne_bar
/-- a copy that has landed one block. -/
theorem amount_recv (d : Dev nD) : (xch m).amount (recvCell c) 0 d = N := by dsimp only [xch]; exact if_neg recv_ne_bar
/-- There are fifteen other devices. -/
theorem card_others : (Finset.univ.erase c : Finset (Dev nD)).card = 15 := by
  rw [Finset.card_erase_of_mem (Finset.mem_univ _)]; decide
/-- So the barrier counter expects 15, -/
theorem expect_bar : (xch m).expect (barCell c) 0 = 15 := by
  unfold Schedule.expect Schedule.amountOf
  rw [duties_bar, Finset.sum_congr rfl fun d _ => amount_bar m c d, Finset.sum_const, card_others, smul_eq_mul]
/-- the send counter 15 blocks, -/
theorem expect_send : (xch m).expect (sendCell c) 0 = 15 * N := by
  unfold Schedule.expect Schedule.amountOf
  rw [duties_send, Finset.sum_congr rfl fun d _ => amount_send m c d, Finset.sum_const, card_others, smul_eq_mul]
/-- and the receive counter 15 blocks. -/
theorem expect_recv : (xch m).expect (recvCell c) 0 = 15 * N := by
  unfold Schedule.expect Schedule.amountOf
  rw [duties_recv, Finset.sum_congr rfl fun d _ => amount_recv m c d, Finset.sum_const, card_others, smul_eq_mul]
/-- A signal from `d` hands over the rows of `d`'s result, with any contents, that the signalled device will write; -/
theorem payload_bar (d : Dev nD) : (xch m).payload (barCell c) 0 d = ownAny F d (rowM c) := by dsimp only [xch]; exact if_pos rfl
/-- a landing from `d` hands over the row block of `d`, holding what `d` computed; -/
theorem payload_recv (d : Dev nD) : (xch m).payload (recvCell c) 0 d = own c (rowM d) (chunk m d c) := by
  dsimp only [xch]; rw [if_neg recv_ne_bar, if_pos rfl]
/-- a finished read hands back the staging block. -/
theorem payload_send (d : Dev nD) : (xch m).payload (sendCell c) 0 d = ownAny F c (blkM d) := by
  dsimp only [xch]; rw [if_neg send_ne_bar, if_neg send_ne_recv, if_pos rfl]

end Facts

/-! ## What a device owes -/

/-- The copies from step `j` on, -/
def rcvOwed (c : Dev nD) (j : ℕ) : CellTallies nD τ sig Unit := ∑ i ∈ Finset.Ico j 15, tallyAt (recvCell (tgt c i)) () N
/-- the signals from number `k` on, -/
def barOwed (c : Dev nD) (k : ℕ) : CellTallies nD τ sig Unit := ∑ i ∈ Finset.Ico k 15, tallyAt (barCell (nth c i)) () 1
/-- and all of it at the launch. -/
def owed₀ (c : Dev nD) : CellTallies nD τ sig Unit := rcvOwed c 0 + barOwed c 0

/-- A sum over a run with its first term set apart. -/
theorem sum_first {M : Type} [AddCommMonoid M] {a b : ℕ} (h : a < b) (f : ℕ → M) :
    ∑ i ∈ Finset.Ico a b, f i = ∑ i ∈ Finset.Ico (a + 1) b, f i + f a := by
  rw [show Finset.Ico a b = insert a (Finset.Ico (a + 1) b) by ext x; simp only [Finset.mem_Ico, Finset.mem_insert]; omega,
    Finset.sum_insert (by rw [Finset.mem_Ico]; omega), add_comm]

/-- A copy pays one block of what a device owes, -/
theorem rcvOwed_step (c : Dev nD) {j : ℕ} (h : j < 15) : rcvOwed c j = rcvOwed c (j + 1) + tallyAt (recvCell (tgt c j)) () N := by
  exact sum_first h _
/-- and a signal one unit. -/
theorem barOwed_step (c : Dev nD) {k : ℕ} (h : k < 15) : barOwed c k = barOwed c (k + 1) + tallyAt (barCell (nth c k)) () 1 := by
  exact sum_first h _
/-- After fifteen copies no block is owed, -/
theorem rcvOwed_done (c : Dev nD) : rcvOwed c 15 = 0 := by unfold rcvOwed; rw [Finset.Ico_self, Finset.sum_empty]
/-- and after fifteen signals no unit. -/
theorem barOwed_done (c : Dev nD) : barOwed c 15 = 0 := by unfold barOwed; rw [Finset.Ico_self, Finset.sum_empty]

/-- A sum of single debts at a counter is the sum of those at it. -/
theorem sum_tally_apply (S : Finset ℕ) (g : ℕ → GSem nD τ sig) (n : ℕ) (g' : GSem nD τ sig) (u : Unit) :
    (∑ i ∈ S, tallyAt (g i) () n : CellTallies nD τ sig Unit) g' u = ∑ i ∈ S, if g' = g i then n else 0 := by
  rw [Finset.sum_apply, Finsupp.finsetSum_apply]
  exact Finset.sum_congr rfl fun i _ => by rw [tallyAt_apply]; simp only [and_true]

/-- What is owed is owed to receive counters or barrier counters. -/
theorem owed_pos {c : Dev nD} {j k : ℕ} {g : GSem nD τ sig} {u : Unit} (h : 0 < (rcvOwed c j + barOwed c k) g u) :
    (∃ d, g = recvCell d) ∨ (k < 15 ∧ ∃ d, g = barCell d) := by
  rw [Pi.add_apply, Finsupp.add_apply] at h
  unfold rcvOwed barOwed at h
  rw [sum_tally_apply, sum_tally_apply] at h
  rcases Nat.add_pos_iff_pos_or_pos.mp h with h | h
  · obtain ⟨i, _, hi⟩ := Finset.exists_ne_zero_of_sum_ne_zero h.ne'
    by_cases e : g = recvCell (tgt c i)
    · exact .inl ⟨_, e⟩
    · rw [if_neg e] at hi; exact absurd rfl hi
  · obtain ⟨i, hm, hi⟩ := Finset.exists_ne_zero_of_sum_ne_zero h.ne'
    have := Finset.mem_Ico.mp hm
    by_cases e : g = barCell (nth c i)
    · exact .inr ⟨by omega, _, e⟩
    · rw [if_neg e] at hi; exact absurd rfl hi

/-! ## The order in which counters are waited for -/

/-- Only the counters of the TensorCores are tracked. -/
def L (g : GSem nD τ sig) : Finset Unit := if g.1.2 = .tc then {()} else ∅
/-- Barrier counters come before receive counters, the others before both. -/
def lv (g : GSem nD τ sig) (_ : Unit) : ℕ := if g.2 = .reg barS then 1 else if g.2 = .dma recvS then 2 else 0

/-- On other threads nothing is tracked, -/
theorem L_of_ne (g : GSem nD τ sig) (h : g.1.2 ≠ .tc) : L g = ∅ := if_neg h
/-- on a TensorCore every counter. -/
theorem L_tc (c : Dev nD) (sm : SemLoc sig) : L ((c : Thread nD τ), sm) = {()} := if_pos rfl
/-- The barrier counter is waited for first, -/
theorem lv_bar (c : Dev nD) : lv (barCell c) () = 1 := by dsimp only [lv]; exact if_pos rfl
/-- the receive counter after it, -/
theorem lv_recv (c : Dev nD) : lv (recvCell c) () = 2 := by dsimp only [lv]; rw [if_neg recv_ne_bar, if_pos rfl]
/-- and the remaining ones are below both. -/
theorem lv_other (c : Dev nD) (q : DmaSem sig) (h : SemLoc.dma q ≠ .dma recvS) : lv ((c : Thread nD τ), .dma q) () = 0 := by
  dsimp only [lv]; rw [if_neg (fun h => by cases h), if_neg h]

/-- A device may wait for any of its own copies while it owes others. -/
theorem mayWait_low (c : Dev nD) (q : DmaSem sig) (hq : SemLoc.dma q ≠ .dma recvS) (j k : ℕ) :
    (levAts L lv : sProp 𝕄) ⊢ MayWait (c : Thread nD τ) (.dma q) () (rcvOwed c j + barOwed c k) :=
  MayOwe.of_cut (L := L) (lev := lv) 0 (fun p hp => by rw [Finset.mem_singleton.mp hp, L_tc]; exact Finset.mem_singleton_self _)
    (fun g u hg => by rcases owed_pos hg with ⟨d, rfl⟩ | ⟨_, d, rfl⟩ <;> exact Finset.mem_singleton_self _)
    (fun p hp => by rw [Finset.mem_singleton.mp hp]; exact (lv_other c q hq).le)
    (fun g u hg => by
      rcases owed_pos hg with ⟨d, rfl⟩ | ⟨_, d, rfl⟩
      · rw [show lv (recvCell d) u = 2 from lv_recv d]; decide
      · rw [show lv (barCell d) u = 1 from lv_bar d]; decide)

/-- It may wait for the handshake once all its own signals are out. -/
theorem mayWait_bar (c : Dev nD) : (levAts L lv : sProp 𝕄) ⊢ MayWait (c : Thread nD τ) (.reg barS) () (rcvOwed c 0 + barOwed c 15) :=
  MayOwe.of_cut (L := L) (lev := lv) 1 (fun p hp => by rw [Finset.mem_singleton.mp hp, L_tc]; exact Finset.mem_singleton_self _)
    (fun g u hg => by rcases owed_pos hg with ⟨d, rfl⟩ | ⟨h, d, rfl⟩ <;> exact Finset.mem_singleton_self _)
    (fun p hp => by rw [Finset.mem_singleton.mp hp]; exact (lv_bar c).le)
    (fun g u hg => by
      rcases owed_pos hg with ⟨d, rfl⟩ | ⟨h, d, rfl⟩
      · rw [show lv (recvCell d) u = 2 from lv_recv d]; decide
      · exact absurd h (by decide))

end Cert.KernelProof

end
-- ==== Proof.Runs.lean ====
/-
# Families over devices as families over steps

A device meets the other devices in an order of its own; a family of assertions over all others is the same family run
through in that order.
-/
module

public import proofs.«01_k».proof.Proof.Exchange
public import Idealize.SL.BI.BigOpNat

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {M : Type} [URA M]

/-- Reindexing along a function that hits a set exactly once each. -/
theorem bigSep_run {I : Type} [DecidableEq I] (f : ℕ → I) (a b : ℕ) (S : Finset I) (hf : Set.InjOn f (Finset.Ico a b))
    (hS : (Finset.Ico a b).image f = S) (Φ : I → sProp M) : bigSep S Φ = bigSep (Finset.Ico a b) fun i => Φ (f i) := by
  rw [← hS]; exact bigSep_image_of_injOn hf Φ

/-- No two steps have the same target. -/
theorem tgt_injOn (c : Dev nD) (b : ℕ) (hb : b ≤ 16) : Set.InjOn (tgt c) (Finset.Ico 0 b) := by
  intro i hi j hj h
  have hi' := (Finset.mem_Ico.mp (Finset.mem_coe.mp hi)).2
  have hj' := (Finset.mem_Ico.mp (Finset.mem_coe.mp hj)).2
  exact congrArg Fin.val (tgt_inj c ⟨i, by omega⟩ ⟨j, by omega⟩ h)

/-- All devices in the order a device computes for them. -/
theorem all_tgt (c : Dev nD) (Φ : Dev nD → sProp M) : bigSep Finset.univ Φ = bigSep (Finset.Ico 0 16) fun i => Φ (tgt c i) :=
  bigSep_run (tgt c) 0 16 _ (tgt_injOn c 16 le_rfl) (by
    ext d; simp only [Finset.mem_image, Finset.mem_univ, iff_true]
    obtain ⟨j, hj⟩ := tgt_surj c d
    exact ⟨j.val, Finset.mem_Ico.mpr ⟨Nat.zero_le _, j.isLt⟩, hj⟩) Φ

/-- All others in that order. -/
theorem others_tgt (c : Dev nD) (Φ : Dev nD → sProp M) :
    bigSep (Finset.univ.erase c) Φ = bigSep (Finset.Ico 0 15) fun i => Φ (tgt c i) :=
  bigSep_run (tgt c) 0 15 _ (tgt_injOn c 15 (by decide)) (by
    ext d; simp only [Finset.mem_image, Finset.mem_erase, Finset.mem_univ, and_true]
    constructor
    · rintro ⟨j, hj, rfl⟩; exact tgt_ne c ⟨j, (Finset.mem_Ico.mp hj).2⟩
    · intro hd
      obtain ⟨j, hj⟩ := tgt_surj c d
      refine ⟨j.val, Finset.mem_Ico.mpr ⟨Nat.zero_le _, ?_⟩, hj⟩
      by_contra h
      have : j.val = 15 := by have := j.isLt; omega
      exact hd (by rw [← hj, this]; exact tgt_last c)) Φ

/-- All others in the order of the signals. -/
theorem others_nth (c : Dev nD) (Φ : Dev nD → sProp M) :
    bigSep (Finset.univ.erase c) Φ = bigSep (Finset.Ico 0 15) fun i => Φ (nth c i) :=
  bigSep_run (nth c) 0 15 _ (by
    intro i hi j hj h
    have hi' := (Finset.mem_Ico.mp (Finset.mem_coe.mp hi)).2
    have hj' := (Finset.mem_Ico.mp (Finset.mem_coe.mp hj)).2
    exact congrArg Fin.val (nth_inj c ⟨i, by omega⟩ ⟨j, by omega⟩ h)) (by
    ext d; simp only [Finset.mem_image, Finset.mem_erase, Finset.mem_univ, and_true]
    constructor
    · rintro ⟨j, hj, rfl⟩; exact nth_ne c ⟨j, (Finset.mem_Ico.mp hj).2⟩
    · intro hd
      obtain ⟨j, hj⟩ := nth_surj c d
      refine ⟨j.val, Finset.mem_Ico.mpr ⟨Nat.zero_le _, ?_⟩, hj⟩
      by_contra h
      have : j.val = 15 := by have := j.isLt; omega
      exact hd (by rw [← hj, this]; exact nth_last c)) Φ

/-- The four slots from any multiple of four. -/
theorem slots_run (a : ℕ) (ha : a = 0 ∨ a = 16) (Φ : Fin 4 → sProp M) :
    bigSep Finset.univ Φ = bigSep (Finset.Ico a (a + 4)) fun i => Φ (slotOf i) :=
  bigSep_run slotOf a (a + 4) _ (by
    intro i hi j hj h
    have hi' := Finset.mem_Ico.mp (Finset.mem_coe.mp hi)
    have hj' := Finset.mem_Ico.mp (Finset.mem_coe.mp hj)
    have : i % 4 = j % 4 := congrArg Fin.val h
    omega) (by rcases ha with rfl | rfl <;> decide) Φ

/-- Four steps on, the slot is the same. -/
theorem slotOf_add (j : ℕ) : slotOf (j + 4) = slotOf j := Fin.ext (Nat.add_mod_right j 4)

/-- A step number below 16 is kept, -/
theorem fin16_val {j : ℕ} (h : j < 16) : (Fin.ofNat 16 j).val = j := Nat.mod_eq_of_lt h
/-- and so is one below 15. -/
theorem fin15_val {j : ℕ} (h : j < 15) : (Fin.ofNat 15 j).val = j := Nat.mod_eq_of_lt h

end Cert.KernelProof

end
-- ==== Proof.Pipe.lean ====
/-
# The four-deep pipeline of matrix columns
Columns are copied into four slots ahead of their use. Between two steps the columns still to copy, the copies in
flight, the free slots and the columns done with are four runs of step numbers.
-/
module

public import proofs.«01_k».proof.Proof.Runs

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => Res F

variable (m : (ℓ : Loc nD τ sig) → Buf (Elt F) ℓ) (c : Dev nD)

/-- What a copy of one column block raises its counter by. -/
abbrev NW : ℕ := (slotV 0).view.dmaCredit

/-- A column block raises its semaphore by something. -/
theorem NW_pos : 0 < NW := View.dmaCredit_pos _ (by decide)

/-- The column block of step `j`, -/
def colAt (j : ℕ) : sProp 𝕄 := own c (colM (tgt c j)) (colW m c (tgt c j))
/-- its copy in flight, -/
def flyAt (j : ℕ) : sProp 𝕄 :=
  Transfers.Flight EC (c : Thread nD τ) (.dma (wsem (slotOf j))) () NW
    iprop(own c (slotV (slotOf j)) (colW m c (tgt c j)) ∗ own c (colM (tgt c j)) (colW m c (tgt c j)))
/-- and its slot when free. -/
def freeAt (F : FTy → Type) (c : Dev nD) (j : ℕ) : sProp (Res F) :=
  iprop(ownAny F c (slotM (slotOf j)) ∗ semVal ((c : Thread nD τ), .dma (wsem (slotOf j))) 0)

/-- Copies have been started for the steps before `hi` and used for the steps before `lo`. -/
def pipe (lo hi : ℕ) : sProp 𝕄 :=
  iprop(bigSep (Finset.Ico hi 16) (colAt m c) ∗ bigSep (Finset.Ico lo hi) (flyAt m c)
    ∗ bigSep (Finset.Ico hi (lo + 4)) (freeAt F c) ∗ bigSep (Finset.Ico 0 lo) (colAt m c))

/-- The rounded rows of `x`, held in their buffer. -/
def xbHeld : sProp 𝕄 := iprop((c : Thread nD τ).loc cc0_scratch0 ↦{fullShare} xb m c)

/-- Some debt with whatever was waited for. -/
def owing (F : FTy → Type) (c : Dev nD) (O : CellTallies nD τ sig Unit) : sProp (Res F) := iprop(∃ W, owes (c : Thread nD τ) O W)

omit [FloatOps F] in
/-- The columns as the program names them. -/
theorem col_own {j : ℕ} (h : j < 16) (X : S4096x512.Idx → Elt F .f32) :
    own c (colM (tgt c j)) X = own c (colV c (Fin.ofNat 16 j)) X := by
  rw [colV_eq, fin16_val h]

variable {Q : PUnit.{1} → sProp (Res F)} {k : Code F}

/-- Starting the next copy. -/
theorem fetch {lo hi : ℕ} (h16 : hi < 16) (h4 : hi < lo + 4) (hlo : lo ≤ hi) :
    pipe m c lo hi ⊢ iprop((pipe m c lo (hi + 1) -∗ wpK c k Q) -∗ wpK c (fetchP c hi k) Q) := by
  unfold pipe
  rw [bigSep_Ico_succ_bot h16, bigSep_Ico_succ_bot h4, bigSep_Ico_succ_top hlo]
  unfold fetchP
  iintro ⟨⟨Hc, Hcs⟩, Hfl, ⟨Hf, Hfs⟩, Hd⟩ Hk
  unfold freeAt
  icases Hf with ⟨⟨%X, Hs⟩, Hv⟩
  ihave Hs := (own_squeeze c (slotM (slotOf hi)) squeezes_S1x4096x512_S4096x512 X) $$ Hs
  unfold colAt
  ihave Hc := (Entails.of_eq (col_own c h16 _)) $$ Hc
  iapply (own_copy c NW rfl NW_pos (colW m c (tgt c hi)) _) $$ [Hc Hs Hv]
  · isplitl [Hc]; · iexact Hc
    isplitl [Hs]; · iexact Hs
    iexact Hv
  iintro Hf
  iapply Hk
  isplitl [Hcs]; · iexact Hcs
  isplitl [Hf Hfl]
  · isplitl [Hf]; · unfold flyAt; rw [col_own c h16]; iexact Hf
    iexact Hfl
  isplitl [Hfs]; · iexact Hfs
  iexact Hd

/-- The offset of the rounded rows is zero. -/
theorem xb_zero : (![0, 0] : Fin S256x4096.rank → ℕ) = fun _ => 0 := by decide

/-- Waiting for the oldest copy and reading both operands of its product: its slot is free again. -/
theorem drain_read {lo hi : ℕ} (h : lo < hi) (h4 : hi ≤ lo + 4) (O : CellTallies nD τ sig Unit)
    (hO : (levAts L lv : sProp 𝕄) ⊢ MayWait (c : Thread nD τ) (.dma (wsem (slotOf lo))) () O)
    {kk : Vec F S256x4096 .bf16 → Vec F S1x4096x512 .f32 → Code F} :
    iprop(pipe m c lo hi ∗ xbHeld m c ∗ owing F c O ∗ □ levAts L lv)
      ⊢ iprop(((pipe m c (lo + 1) hi ∗ xbHeld m c ∗ owing F c O) -∗ wpK c (kk (xb m c) (slotW m c (tgt c lo))) Q)
          -∗ wpK c (drainP c lo (readP lo kk)) Q) := by
  unfold pipe
  rw [bigSep_Ico_succ_bot h, show lo + 1 + 4 = lo + 4 + 1 by omega, bigSep_Ico_succ_top h4, bigSep_Ico_succ_top (Nat.zero_le lo)]
  unfold drainP readP owing xbHeld
  iintro ⟨⟨Hcs, ⟨Hf, Hfl⟩, Hfs, Hd⟩, Hx, ⟨%W, HO⟩, #Hlev⟩ Hk
  ihave Hmw := hO $$ Hlev
  unfold flyAt
  iapply (Transfers.wp_waitLocalO EC 𝒱₀ (c : Thread nD τ) none () (dstw := slotV (slotOf lo)) (N := NW) rfl) $$ [Hf HO Hmw]
  · isplitl [Hf]; · iexact Hf
    isplitl [HO]; · iexact HO
    iexact Hmw
  iintro ⟨⟨Hs, Hc⟩, Hv, HO⟩
  ihave Hs := (show _ ⊢ own c (slotM (slotOf lo)) (slotW m c (tgt c lo)) from
    own_unsqueeze c (slotM (slotOf lo)) squeezes_S1x4096x512_S4096x512 (colW m c (tgt c lo))) $$ Hs
  iapply (wp_load 𝒱₀ (c : Thread nD τ) none Set.univ (m := xbM) (S := Finset.univ) (f := xb m c) (Finset.subset_univ _)) $$ Hx
  iintro Hx
  rw [show View.readAt (Elt F) xbM.view xR.toLoadRect (xb m c) = xb m c from Memref.readAt_unit_zero _ cc0_scratch0 xb_zero _ _]
  iapply (own_load c (m := wbM) (r := slotR (slotOf lo)) (fun _ => rfl) (slotW m c (tgt c lo))) $$ Hs
  iintro Hs
  iapply Hk
  isplitl [Hcs Hfl Hfs Hd Hs Hc Hv]
  · isplitl [Hcs]; · iexact Hcs
    isplitl [Hfl]; · iexact Hfl
    isplitl [Hs Hv Hfs]
    · isplitl [Hs Hv]
      · unfold freeAt
        rw [slotOf_add]
        isplitl [Hs]; · iexists _; iexact Hs
        iexact Hv
      iexact Hfs
    isplitl [Hc]; · unfold colAt; iexact Hc
    iexact Hd
  isplitl [Hx]; · iexact Hx
  iexists _; iexact HO

end Cert.KernelProof

end
-- ==== Proof.Ship.lean ====
/-
# Sending a block
-/
module

public import proofs.«01_k».proof.Proof.Pipe

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => Res F

variable (m : (ℓ : Loc nD τ sig) → Buf (Elt F) ℓ)

/-- What every device knows: the three counters of each device keep the schedule, and their round is open. -/
def known (K : Dev nD × Fin 3 → ℕ) : sProp 𝕄 :=
  iprop((bigSep Finset.univ fun ck => cellInv ER (xch m) (K ck) (kcell ck))
    ∗ bigSep Finset.univ fun ck => reached ER (kcell ck) 0)

/-- What is known of the counters stays known: -/
instance known_persistent (K : Dev nD × Fin 3 → ℕ) : Persistent (known (F := F) m K) := by unfold known; infer_instance

/-- the invariant of each, -/
theorem known_inv (K : Dev nD × Fin 3 → ℕ) (ck : Dev nD × Fin 3) : known (F := F) m K ⊢ cellInv ER (xch m) (K ck) (kcell ck) := by
  unfold known; iintro ⟨H, -⟩
  iapply (show (bigSep Finset.univ fun ck => cellInv ER (xch m) (K ck) (kcell ck)) ⊢ (cellInv ER (xch m) (K ck) (kcell ck) : sProp 𝕄)
    from bigSep_elim (Finset.mem_univ ck)) $$ H

/-- and that its round has begun. -/
theorem known_reached (K : Dev nD × Fin 3 → ℕ) (ck : Dev nD × Fin 3) : known (F := F) m K ⊢ reached ER (kcell ck) 0 := by
  unfold known; iintro ⟨-, H⟩
  iapply (show (bigSep Finset.univ fun ck => reached ER (kcell ck) 0) ⊢ (reached ER (kcell ck) 0 : sProp 𝕄)
    from bigSep_elim (Finset.mem_univ ck)) $$ H

/-- What a device holds to send device `p` its block: the staging block, the rows it goes to, and the two duties the
    copy pays. -/
def item (F : FTy → Type) (c p : Dev nD) : sProp (Res F) :=
  iprop(ownAny F c (blkM p) ∗ ownAny F p (rowM c) ∗ dutyTok ER (sendCell c) 0 p ∗ dutyTok ER (recvCell p) 0 c)

variable (c : Dev nD) {Q : PUnit.{1} → sProp (Res F)} {k : Code F}

omit [FloatOps F] in
/-- A staging block as a store names it. -/
theorem put_own (j : Fin 15) (X : S1x256x512.Idx → Elt F .bf16) :
    own c (blkM (tgt c j)) X = own c (sM.slice (PutR c j) (fun _ => rfl)) X :=
  congrArg (fun v => own c v X) (slice_congr sM (putOff_eq c j) _ _).symm

omit [FloatOps F] in
/-- A staging block as a copy names it. -/
theorem send_own (j : Fin 15) (X : S256x512.Idx → Elt F .bf16) : own c (blkV (tgt c j)) X = own c (sendV c j) X := by rw [sendV_eq]

omit [FloatOps F] in
/-- The rows a copy writes. -/
theorem row_own (p : Dev nD) (X : S256x512.Idx → Elt F .bf16) : own p (rowM c) X = own p (rowV c) X := by rw [rowV_eq]

/-- Sending the block of step `j`. -/
theorem ship (K : Dev nD × Fin 3 → ℕ) (j : Fin 15) :
    iprop(known m K ∗ item F c (tgt c j) ∗ owing F c (rcvOwed c j + barOwed c 15))
      ⊢ iprop(((cred (tallyAt (sendCell c) () N) ∗ owing F c (rcvOwed c (j + 1) + barOwed c 15)) -∗ wpK c k Q)
          -∗ wpK c (shipP c j (chunk1 m c (tgt c j)) k) Q) := by
  have hp : tgt c j = (⟨sendDev c j, sendDev_lt c j⟩ : Dev nD) := Fin.ext (sendDev_eq c j).symm
  unfold item owing
  iintro ⟨#Hk, ⟨⟨%Y, Hb⟩, Hrow, Hts, Htr⟩, ⟨%W, HO⟩⟩ Hgo
  unfold shipP
  ihave Hb := (Entails.of_eq (put_own c j Y)) $$ Hb
  iapply (own_load c (m := sM) (r := PutR c j) (fun _ => rfl) Y) $$ Hb
  iintro Hb
  iapply (own_store c (m := sM) (r := PutR c j) (fun _ => rfl) Y) $$ Hb
  iintro Hb
  ihave Hb := (Entails.of_eq (put_own c j _).symm) $$ Hb
  ihave Hb := (show _ ⊢ own c (blkV (tgt c j)) (chunk m c (tgt c j)) from
    own_squeeze c (blkM (tgt c j)) squeezes_S1x256x512_S256x512 (chunk1 m c (tgt c j))) $$ Hb
  ihave Hb := (Entails.of_eq (send_own c j _)) $$ Hb
  ihave Hrow := (Entails.of_eq (show ownAny F (tgt c j) (rowM c) = ownAny F (⟨sendDev c j, sendDev_lt c j⟩ : Dev nD) (rowV c) by
    rw [rowV_eq, hp])) $$ Hrow
  icases Hrow with ⟨%Z, Hrow⟩
  ihave Htr := (Entails.of_eq (show (dutyTok ER (recvCell (tgt c j)) 0 c : sProp 𝕄)
    = dutyTok ER (recvCell (⟨sendDev c j, sendDev_lt c j⟩ : Dev nD)) 0 c by rw [hp])) $$ Htr
  iapply (own_send (E := ER) c (xch m) (⟨sendDev c j, sendDev_lt c j⟩ : Dev nD) (src := sendV c j) (dst := rowV c)
    (sS := .dma sendS) (sem := .dma recvS) (κ₁ := K (c, 1)) (κ₂ := K (⟨sendDev c j, sendDev_lt c j⟩, 2)) (d₁ := tgt c j) (d₂ := c)
    (by rw [duties_send]; exact Finset.mem_erase.mpr ⟨tgt_ne c j, Finset.mem_univ _⟩)
    (by rw [← hp, duties_recv]; exact Finset.mem_erase.mpr ⟨(tgt_ne c j).symm, Finset.mem_univ _⟩)
    N rfl (amount_send m c _) (amount_recv m _ _) (O₀ := rcvOwed c j + barOwed c 15) (rcvOwed c (j + 1) + barOwed c 15)
    (by rw [rcvOwed_step c j.isLt, hp, add_right_comm]) (chunk m c (tgt c j)) Z
    (by
      rw [payload_send, sendV_eq]
      iintro H; iexists _
      iapply (own_unsqueeze c (blkM (tgt c j)) squeezes_S1x256x512_S256x512 _) $$ H)
    (by rw [payload_recv, ← hp, rowV_eq])) $$ [Hb Hrow HO Hts Htr]
  · isplitr; · iapply (known_inv m K (c, 1)) $$ Hk
    isplitr; · iapply (known_inv m K (⟨sendDev c j, sendDev_lt c j⟩, 2)) $$ Hk
    isplitl [Hb]; · iexact Hb
    isplitl [Hrow]; · iexact Hrow
    isplitl [HO]; · iexact HO
    isplitl [Hts]; · iexact Hts
    isplitr; · iapply (known_reached m K (c, 1)) $$ Hk
    isplitl [Htr]; · iexact Htr
    iapply (known_reached m K (⟨sendDev c j, sendDev_lt c j⟩, 2)) $$ Hk
  iintro ⟨Hc, HO⟩
  iapply Hgo
  isplitl [Hc]; · iexact Hc
  iexists _; iexact HO

end Cert.KernelProof

end
-- ==== Proof.Steps.lean ====
/-
# The fifteen steps that send
One step on the state between steps; all of them by induction; and the last step, which keeps its block.
-/
module

public import proofs.«01_k».proof.Proof.Ship

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => Res F

variable (m : (ℓ : Loc nD τ sig) → Buf (Elt F) ℓ) (c : Dev nD)

/-- What a device holds before step `j`: the pipeline three copies ahead, the rounded rows of `x`, what it needs to send
    the remaining blocks, the right to wait for the blocks sent, and its debts. -/
def between (j : ℕ) : sProp 𝕄 :=
  iprop(pipe m c j (min (j + 3) 16) ∗ xbHeld m c ∗ (bigSep (Finset.Ico j 15) fun i => item F c (tgt c i))
    ∗ (bigSep (Finset.Ico 0 j) fun _ => cred (tallyAt (sendCell c) () N)) ∗ owing F c (rcvOwed c j + barOwed c 15))

variable {Q : PUnit.{1} → sProp (Res F)} {k : Code F}

/-- The copy semaphores are not the receive semaphore. -/
theorem wsem_ne_recv : ∀ s : Fin 4, (SemLoc.dma (wsem s) : SemLoc sig) ≠ .dma recvS := by decide

/-- The part of a step after its own copy has been started. -/
theorem step_rest (K : Dev nD × Fin 3 → ℕ) {j hi : ℕ} (h : j < 15) (hlo : j < hi) (hhi : hi ≤ j + 4) :
    iprop(known m K ∗ □ levAts L lv ∗ pipe m c j hi ∗ xbHeld m c ∗ item F c (tgt c j) ∗ owing F c (rcvOwed c j + barOwed c 15))
      ⊢ iprop(((pipe m c (j + 1) hi ∗ xbHeld m c ∗ cred (tallyAt (sendCell c) () N) ∗ owing F c (rcvOwed c (j + 1) + barOwed c 15))
            -∗ wpK c k Q)
          -∗ wpK c (drainP c j (readP j fun xb wb => shipP c (Fin.ofNat 15 j) (k0_pay3 (scl m c) xb wb) k)) Q) := by
  iintro ⟨#HK, #Hlev, Hp, Hx, Hi, HO⟩ Hk
  iapply (drain_read m c hlo hhi _ (mayWait_low c _ (wsem_ne_recv _) j 15)) $$ [Hp Hx HO]
  · isplitl [Hp]; · iexact Hp
    isplitl [Hx]; · iexact Hx
    isplitl [HO]; · iexact HO
    imodintro; iexact Hlev
  iintro ⟨Hp, Hx, HO⟩
  have e : (Fin.ofNat 15 j).val = j := fin15_val h
  have hs := ship m c (Q := Q) (k := k) K (Fin.ofNat 15 j)
  rw [e] at hs
  iapply hs $$ [Hi HO]
  · isplitr; · iexact HK
    isplitl [Hi]; · iexact Hi
    iexact HO
  iintro ⟨Hc, HO⟩
  iapply Hk
  isplitl [Hp]; · iexact Hp
  isplitl [Hx]; · iexact Hx
  isplitl [Hc]; · iexact Hc
  iexact HO

/-- One step. -/
theorem step (K : Dev nD × Fin 3 → ℕ) {j : ℕ} (h : j < 15) :
    iprop(known m K ∗ □ levAts L lv ∗ between m c j)
      ⊢ iprop((between m c (j + 1) -∗ wpK c k Q) -∗ wpK c (stepP c (scl m c) j k) Q) := by
  unfold between
  rw [bigSep_Ico_succ_bot h, bigSep_Ico_succ_top (Nat.zero_le j)]
  iintro ⟨#HK, #Hlev, Hp, Hx, ⟨Hi, His⟩, Hcs, HO⟩ Hk
  unfold stepP
  by_cases hj : j < 13
  · rw [if_pos hj, Nat.min_eq_left (by omega : j + 3 ≤ 16), Nat.min_eq_left (by omega : j + 1 + 3 ≤ 16)]
    iapply (fetch m c (lo := j) (hi := j + 3) (by omega) (by omega) (by omega)) $$ Hp
    iintro Hp
    iapply (step_rest m c K (hi := j + 1 + 3) h (by omega) (by omega)) $$ [Hp Hx Hi HO]
    · isplitr; · iexact HK
      isplitr; · imodintro; iexact Hlev
      isplitl [Hp]; · rw [show j + 1 + 3 = j + 3 + 1 by omega]; iexact Hp
      isplitl [Hx]; · iexact Hx
      isplitl [Hi]; · iexact Hi
      iexact HO
    iintro ⟨Hp, Hx, Hc, HO⟩
    iapply Hk
    isplitl [Hp]; · iexact Hp
    isplitl [Hx]; · iexact Hx
    isplitl [His]; · iexact His
    isplitl [Hc Hcs]
    · isplitl [Hc]; · iexact Hc
      iexact Hcs
    iexact HO
  · rw [if_neg hj, Nat.min_eq_right (by omega : 16 ≤ j + 3), Nat.min_eq_right (by omega : 16 ≤ j + 1 + 3)]
    iapply (step_rest m c K (hi := 16) h (by omega) (by omega)) $$ [Hp Hx Hi HO]
    · isplitr; · iexact HK
      isplitr; · imodintro; iexact Hlev
      isplitl [Hp]; · iexact Hp
      isplitl [Hx]; · iexact Hx
      isplitl [Hi]; · iexact Hi
      iexact HO
    iintro ⟨Hp, Hx, Hc, HO⟩
    iapply Hk
    isplitl [Hp]; · iexact Hp
    isplitl [Hx]; · iexact Hx
    isplitl [His]; · iexact His
    isplitl [Hc Hcs]
    · isplitl [Hc]; · iexact Hc
      iexact Hcs
    iexact HO

/-- All the steps from step `j` on. -/
theorem steps (K : Dev nD × Fin 3 → ℕ) : ∀ (n j : ℕ), j + n = 15 →
    (iprop(known m K ∗ □ levAts L lv ∗ between m c j)
      ⊢ iprop((between m c 15 -∗ wpK c k Q) -∗ wpK c (stepsP c (scl m c) n j k) Q))
  | 0, j, h => by
    obtain rfl : j = 15 := by omega
    iintro ⟨-, -, Hb⟩ Hk
    iapply Hk; iexact Hb
  | n + 1, j, h => by
    iintro ⟨#HK, #Hlev, Hb⟩ Hk
    iapply (step m c K (j := j) (k := stepsP c (scl m c) n (j + 1) k) (by omega)) $$ [Hb]
    · isplitr; · iexact HK
      isplitr; · imodintro; iexact Hlev
      iexact Hb
    iintro Hb
    iapply (steps K n (j + 1) (by omega)) $$ [Hb]
    · isplitr; · iexact HK
      isplitr; · imodintro; iexact Hlev
      iexact Hb
    iexact Hk

omit [FloatOps F] in
/-- The device's own rows as the last store names them. -/
theorem keep_own (X : S256x512.Idx → Elt F .bf16) :
    own c (rowM c) X
      = own c (oM.slice (Rect.unit (s := S4096x512) (k0_off12 c) S256x512.size (k0_off12_inb c)) (fun _ => rfl)) X :=
  congrArg (fun v => own c v X) (slice_congr oM (ownOff_eq c) _ _).symm

/-- The last step. -/
theorem own_step :
    iprop(□ levAts L lv ∗ pipe m c 15 16 ∗ xbHeld m c ∗ ownAny F c (rowM c) ∗ owing F c (rcvOwed c 15 + barOwed c 15))
      ⊢ iprop(((pipe m c 16 16 ∗ xbHeld m c ∗ own c (rowM c) (chunk m c c) ∗ owing F c (rcvOwed c 15 + barOwed c 15)) -∗ wpK c k Q)
          -∗ wpK c (ownP c (scl m c) k) Q) := by
  iintro ⟨#Hlev, Hp, Hx, ⟨%Y, Hr⟩, HO⟩ Hk
  unfold ownP
  iapply (drain_read m c (lo := 15) (hi := 16) (by decide) (by decide) _ (mayWait_low c _ (wsem_ne_recv _) 15 15)) $$ [Hp Hx HO]
  · isplitl [Hp]; · iexact Hp
    isplitl [Hx]; · iexact Hx
    isplitl [HO]; · iexact HO
    imodintro; iexact Hlev
  iintro ⟨Hp, Hx, HO⟩
  ihave Hr := (Entails.of_eq (keep_own c Y)) $$ Hr
  iapply (own_load c (m := oM) (fun _ => rfl) Y) $$ Hr
  iintro Hr
  iapply (own_store c (m := oM) (fun _ => rfl) Y) $$ Hr
  iintro Hr
  rw [tgt_last, chunk_own]
  ihave Hr := (Entails.of_eq (keep_own c _).symm) $$ Hr
  iapply Hk
  isplitl [Hp]; · iexact Hp
  isplitl [Hx]; · iexact Hx
  isplitl [Hr]; · iexact Hr
  iexact HO

end Cert.KernelProof

end
-- ==== Proof.Waits.lean ====
/-
# The handshake, and collecting what the exchange brings
-/
module

public import proofs.«01_k».proof.Proof.Steps

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => Res F

variable (m : (ℓ : Loc nD τ sig) → Buf (Elt F) ℓ) (c : Dev nD)

variable {Q : PUnit.{1} → sProp (Res F)} {k : Code F}

/-- What a device hands a device `p` with its signal: the duty of the signal and the rows `p` is going to write. -/
def hand (F : FTy → Type) (c p : Dev nD) : sProp (Res F) := iprop(dutyTok ER (barCell p) 0 c ∗ ownAny F c (rowM p))

/-- One signal. -/
theorem signal (K : Dev nD × Fin 3 → ℕ) (i : Fin 15) :
    iprop(known m K ∗ hand F c (nth c i) ∗ owing F c (rcvOwed c 0 + barOwed c i))
      ⊢ iprop((owing F c (rcvOwed c 0 + barOwed c (i + 1)) -∗ wpK c k Q)
          -∗ wpK c (.op (.semSignal (Dev.tc (⟨signalDev c i, signalDev_lt c i⟩ : Dev nD)) barS (1#32).toInt) fun _ => k) Q) := by
  have hp : (⟨signalDev c i, signalDev_lt c i⟩ : Dev nD) = nth c i := Fin.ext (signalDev_eq c i)
  rw [hp]
  unfold hand owing
  iintro ⟨#HK, ⟨Ht, Hr⟩, ⟨%W, HO⟩⟩ Hk
  iapply (Rounds.wp_signal 𝒱₀ ER (xch m) (c : Thread nD τ) none (dst := (nth c i : Thread nD τ)) (sem := barS) (r := 0) (d := c)
    (k' := 1) (κ := K (nth c i, 0)) (by rw [duties_bar]; exact Finset.mem_erase.mpr ⟨(nth_ne c i).symm, Finset.mem_univ _⟩)
    (amount_bar m _ _) () (O₀ := rcvOwed c 0 + barOwed c i) (rcvOwed c 0 + barOwed c (i + 1))
    (by rw [barOwed_step c i.isLt, add_assoc])) $$ [Ht Hr HO]
  · isplitr; · iapply (known_inv m K (nth c i, 0)) $$ HK
    isplitl [HO]; · iexact HO
    isplitl [Ht]; · iexact Ht
    isplitl [Hr]; · rw [payload_bar]; iexact Hr
    iapply (known_reached m K (nth c i, 0)) $$ HK
  iintro HO
  iapply Hk
  iexists _; iexact HO

/-- All signals from number `i` on. -/
theorem signals (K : Dev nD × Fin 3 → ℕ) : ∀ (n i : ℕ), i + n = 15 →
    (iprop(known m K ∗ (bigSep (Finset.Ico i 15) fun i => hand F c (nth c i)) ∗ owing F c (rcvOwed c 0 + barOwed c i))
      ⊢ iprop((owing F c (rcvOwed c 0 + barOwed c 15) -∗ wpK c k Q) -∗ wpK c (signalsP c n i k) Q))
  | 0, i, h => by
    obtain rfl : i = 15 := by omega
    iintro ⟨-, -, HO⟩ Hk
    iapply Hk; iexact HO
  | n + 1, i, h => by
    rw [bigSep_Ico_succ_bot (by omega : i < 15)]
    iintro ⟨#HK, ⟨Hh, Hhs⟩, HO⟩ Hk
    have hs := signal m c (Q := Q) (k := signalsP c n (i + 1) k) K (Fin.ofNat 15 i)
    rw [fin15_val (by omega : i < 15)] at hs
    unfold signalsP
    iapply hs $$ [Hh HO]
    · isplitr; · iexact HK
      isplitl [Hh]; · iexact Hh
      iexact HO
    iintro HO
    iapply (signals K n (i + 1) (by omega)) $$ [Hhs HO]
    · isplitr; · iexact HK
      isplitl [Hhs]; · iexact Hhs
      iexact HO
    iexact Hk

/-- What the handshake brings, in the order of the steps. -/
theorem bar_pay : (bigSep ((xch m).duties (barCell c) 0 \ ∅) fun d => (xch m).payload (barCell c) 0 d)
    = bigSep (Finset.Ico 0 15) fun i => ownAny F (tgt c i) (rowM c) := by
  rw [Finset.sdiff_empty, duties_bar, bigSep_congr fun d _ => payload_bar m c d, others_tgt c]

/-- Waiting for the handshake: every other device has handed over the rows of this device's number. -/
theorem bar_wait (K : Dev nD × Fin 3 → ℕ) :
    iprop(known m K ∗ □ levAts L lv ∗ atPos ER (barCell c) 0 ∅ 0 ∗ cred (tallyAt (barCell c) () 15)
        ∗ owing F c (rcvOwed c 0 + barOwed c 15))
      ⊢ iprop(((semVal (barCell c) 0 ∗ (bigSep (Finset.Ico 0 15) fun i => ownAny F (tgt c i) (rowM c))
            ∗ owing F c (rcvOwed c 0 + barOwed c 15)) -∗ wpK c k Q)
          -∗ wpK c (.op (.semWait barS (15#32).toInt) fun _ => k) Q) := by
  unfold owing
  iintro ⟨#HK, #Hlev, Hat, Hc, ⟨%W, HO⟩⟩ Hk
  iapply (Rounds.wp_wait_rest_token 𝒱₀ ER (xch m) (c : Thread nD τ) none (sm := .reg barS) (k' := 15) (κ := K (c, 0))
    (wpE_semWait_eq 𝒱₀ (c : Thread nD τ) none Set.univ) (Set.mem_univ _) () (R := 0) (m := 0) (T := ∅)
    (by rw [expect_bar])) $$ [Hat Hc HO]
  · isplitr; · iapply (known_inv m K (c, 0)) $$ HK
    isplitl [Hc]; · iexact Hc
    isplitl [HO]; · iexact HO
    isplitr; · iapply (mayWait_bar c); iexact Hlev
    iexact Hat
  iintro ⟨HO, Hat, -, Hpay⟩
  ihave Hpay := (Entails.of_eq (bar_pay m c)) $$ Hpay
  imod (Rounds.cell_close ER (xch m) (Set.mem_univ (K (c, 0))) (fun h => h) (duties_later m (barCell c))) $$ [Hat] with Hv
  · isplitr; · iapply (known_inv m K (c, 0)) $$ HK
    iexact Hat
  iapply Hk
  isplitl [Hv]; · iexact Hv
  isplitl [Hpay]; · iexact Hpay
  iexists _; iexact HO

/-! ## Collecting blocks -/

/-- `i` of the others' blocks have been collected at a counter. -/
def got (m : (ℓ : Loc nD τ sig) → Buf (Elt F) ℓ) (g : GSem nD τ sig) (i : ℕ) : sProp (Res F) :=
  iprop(∃ S : Finset (Dev nD), ⌜S ⊆ (xch m).duties g 0⌝ ∗ atPos ER g 0 S (i * N) ∗ bigSep S fun d => (xch m).payload g 0 d)

omit [FloatOps F] in
/-- A family over a part of a set and over the rest. -/
theorem join {S T : Finset (Dev nD)} (h : S ⊆ T) (Φ : Dev nD → sProp 𝕄) : iprop(bigSep S Φ ∗ bigSep (T \ S) Φ) ⊢ bigSep T Φ :=
  Entails.of_eq (bigSep_sdiff_split h).symm

section Wait

variable {sm : SemLoc sig} {w : TpuEff nD τ sig (Elt F) Λ₀ .tc PUnit}
  (hw : ∀ K : PUnit → sProp (Res F), wpE (defs₀ (F := F)) 𝒱₀ (c : Thread nD τ) none Set.univ w K = waitSpec (c : Thread nD τ) Set.univ sm N K)

include hw

/-- One wait that is not the last. -/
theorem wait_one {κ : ℕ} (i : ℕ) :
    iprop(cellInv ER (xch m) κ ((c : Thread nD τ), sm) ∗ got m ((c : Thread nD τ), sm) i ∗ cred (tallyAt ((c : Thread nD τ), sm) () N) ∗ owing F c 0)
      ⊢ iprop(((got m ((c : Thread nD τ), sm) (i + 1) ∗ owing F c 0) -∗ wpK c k Q) -∗ wpK c (.op w fun _ => k) Q) := by
  unfold owing got
  iintro ⟨Hi, ⟨%S, %hS, Hat, HS⟩, Hc, ⟨%W, HO⟩⟩ Hk
  iapply (Rounds.wp_wait 𝒱₀ ER (xch m) (c : Thread nD τ) none (sm := sm) (k' := N) (κ := κ) hw (Set.mem_univ _)
    (cr := Finsupp.single () N) {(sm, ())} (R := 0) (m := i * N) (T := S) (by rw [Util.total_single]) (image_single_subset sm () N)) $$ [Hi Hat Hc HO]
  · isplitl [Hi]; · iexact Hi
    isplitl [Hc]; · iexact Hc
    isplitl [HO]; · iexact HO
    isplitr; · iapply (Entails.of_eq (MayWait_zero (c := (c : Thread nD τ)) (s := sm) (ι := ())).symm); iempintro
    iexact Hat
  iintro %S' ⟨%h, HO, Hat, HS'⟩
  iapply Hk
  isplitl [Hat HS HS']
  · iexists S'
    isplitr; · ipureintro; exact h.2.1
    rw [Nat.succ_mul]
    isplitl [Hat]; · iexact Hat
    iapply (join h.1 fun d => (xch m).payload ((c : Thread nD τ), sm) 0 d)
    isplitl [HS] <;> iassumption
  iexists _; iexact HO

/-- The last wait: all blocks are there and the counter is at zero for good. -/
theorem wait_last {κ : ℕ} (i : ℕ) (he : (xch m).expect ((c : Thread nD τ), sm) 0 = (i + 1) * N) :
    iprop(cellInv ER (xch m) κ ((c : Thread nD τ), sm) ∗ got m ((c : Thread nD τ), sm) i ∗ cred (tallyAt ((c : Thread nD τ), sm) () N) ∗ owing F c 0)
      ⊢ iprop(((semVal ((c : Thread nD τ), sm) 0
            ∗ (bigSep ((xch m).duties ((c : Thread nD τ), sm) 0) fun d => (xch m).payload ((c : Thread nD τ), sm) 0 d) ∗ owing F c 0)
          -∗ wpK c k Q) -∗ wpK c (.op w fun _ => k) Q) := by
  unfold owing got
  iintro ⟨#Hi, ⟨%S, %hS, Hat, HS⟩, Hc, ⟨%W, HO⟩⟩ Hk
  iapply (Rounds.wp_wait_rest_token 𝒱₀ ER (xch m) (c : Thread nD τ) none (sm := sm) (k' := N) (κ := κ) hw (Set.mem_univ _)
    () (R := 0) (m := i * N) (T := S) (by rw [he, Nat.succ_mul])) $$ [Hat Hc HO]
  · isplitr; · iexact Hi
    isplitl [Hc]; · iexact Hc
    isplitl [HO]; · iexact HO
    isplitr; · rw [MayWait_zero]; iempintro
    iexact Hat
  iintro ⟨HO, Hat, -, HS'⟩
  imod (Rounds.cell_close ER (xch m) (Set.mem_univ κ) (fun h => h) (duties_later m ((c : Thread nD τ), sm))) $$ [Hat] with Hv
  · isplitr; · iexact Hi
    iexact Hat
  iapply Hk
  isplitl [Hv]; · iexact Hv
  isplitl [HS HS']
  · iapply (join hS fun d => (xch m).payload ((c : Thread nD τ), sm) 0 d)
    isplitl [HS] <;> iassumption
  iexists _; iexact HO

end Wait

/-- What is left after all waits at a counter: the counter at zero and every other device's payload. -/
def collected (g : GSem nD τ sig) : sProp 𝕄 :=
  iprop(semVal g 0 ∗ bigSep ((xch m).duties g 0) fun d => (xch m).payload g 0 d)

/-- Waiting for every block sent here. -/
theorem recvs (K : Dev nD × Fin 3 → ℕ) : ∀ (n i : ℕ), i + (n + 1) = 15 →
    (iprop(known m K ∗ got m (recvCell c) i ∗ (bigSep (Finset.Ico i 15) fun _ => cred (tallyAt (recvCell c) () N)) ∗ owing F c 0)
      ⊢ iprop(((collected m (recvCell c) ∗ owing F c 0) -∗ wpK c k Q) -∗ wpK c (recvsP (n + 1) k) Q))
  | 0, i, h => by
    obtain rfl : i = 14 := by omega
    rw [bigSep_Ico_one]
    iintro ⟨#HK, Hg, Hc, HO⟩ Hk
    unfold recvsP collected
    iapply (wait_last m c (sm := .dma recvS) (wpE_waitDma2_eq 𝒱₀ (c : Thread nD τ) none Set.univ) (κ := K (c, 2)) 14 (expect_recv m c)) $$ [Hg Hc HO]
    · isplitr; · iapply (known_inv m K (c, 2)) $$ HK
      isplitl [Hg]; · iexact Hg
      isplitl [Hc] <;> iassumption
    iintro ⟨Hv, Hp, HO⟩
    iapply Hk
    isplitr [HO]
    · isplitl [Hv] <;> iassumption
    iexact HO
  | n + 1, i, h => by
    rw [bigSep_Ico_succ_bot (by omega : i < 15)]
    iintro ⟨#HK, Hg, ⟨Hc, Hcs⟩, HO⟩ Hk
    unfold recvsP
    iapply (wait_one m c (sm := .dma recvS) (wpE_waitDma2_eq 𝒱₀ (c : Thread nD τ) none Set.univ) (κ := K (c, 2)) i) $$ [Hg Hc HO]
    · isplitr; · iapply (known_inv m K (c, 2)) $$ HK
      isplitl [Hg]; · iexact Hg
      isplitl [Hc] <;> iassumption
    iintro ⟨Hg, HO⟩
    iapply (recvs K n (i + 1) (by omega)) $$ [Hg Hcs HO]
    · isplitr; · iexact HK
      isplitl [Hg]; · iexact Hg
      isplitl [Hcs] <;> iassumption
    iexact Hk

/-- A staging block raises a counter by as much as the rows it goes to. -/
theorem blk_N : blk0V.view.dmaCredit = N := by decide +kernel

/-- What a wait for a departure asks for. -/
theorem send_spec (R : PUnit → sProp 𝕄) :
    wpE (defs₀ (F := F)) 𝒱₀ (c : Thread nD τ) none Set.univ (.waitDma2 sendS row0V blk0V row0_exact blk0_exact) R
      = waitSpec (c : Thread nD τ) Set.univ (.dma sendS) N R := by
  rw [wpE_waitDma2_eq, blk_N]

/-- Waiting for every block sent from here. -/
theorem sends (K : Dev nD × Fin 3 → ℕ) : ∀ (n i : ℕ), i + (n + 1) = 15 →
    (iprop(known m K ∗ got m (sendCell c) i ∗ (bigSep (Finset.Ico i 15) fun _ => cred (tallyAt (sendCell c) () N)) ∗ owing F c 0)
      ⊢ iprop(((collected m (sendCell c) ∗ owing F c 0) -∗ wpK c k Q) -∗ wpK c (sendsP (n + 1) k) Q))
  | 0, i, h => by
    obtain rfl : i = 14 := by omega
    rw [bigSep_Ico_one]
    iintro ⟨#HK, Hg, Hc, HO⟩ Hk
    unfold sendsP collected
    iapply (wait_last m c (sm := .dma sendS) (send_spec c) (κ := K (c, 1)) 14 (expect_send m c)) $$ [Hg Hc HO]
    · isplitr; · iapply (known_inv m K (c, 1)) $$ HK
      isplitl [Hg]; · iexact Hg
      isplitl [Hc] <;> iassumption
    iintro ⟨Hv, Hp, HO⟩
    iapply Hk
    isplitr [HO]
    · isplitl [Hv] <;> iassumption
    iexact HO
  | n + 1, i, h => by
    rw [bigSep_Ico_succ_bot (by omega : i < 15)]
    iintro ⟨#HK, Hg, ⟨Hc, Hcs⟩, HO⟩ Hk
    unfold sendsP
    iapply (wait_one m c (sm := .dma sendS) (send_spec c) (κ := K (c, 1)) i) $$ [Hg Hc HO]
    · isplitr; · iapply (known_inv m K (c, 1)) $$ HK
      isplitl [Hg]; · iexact Hg
      isplitl [Hc] <;> iassumption
    iintro ⟨Hg, HO⟩
    iapply (sends K n (i + 1) (by omega)) $$ [Hg Hcs HO]
    · isplitr; · iexact HK
      isplitl [Hg]; · iexact Hg
      isplitl [Hcs] <;> iassumption
    iexact Hk

end Cert.KernelProof

end
-- ==== Proof.Parts.lean ====
/-
# Cutting buffers into parts and joining them again
-/
module

public import proofs.«01_k».proof.Proof.Waits

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => Res F

/-! ## The families of parts -/

/-- Different row blocks of the result are disjoint, -/
theorem row_disjoint (p q : Dev nD) (h : p ≠ q) : Disjoint (rowR p).set (rowR q).set := by
  refine Rect.unit_disjoint 0 ?_
  have : p.val ≠ q.val := fun e => h (Fin.ext e)
  show 256 * p.val + 256 ≤ 256 * q.val ∨ 256 * q.val + 256 ≤ 256 * p.val
  omega
/-- so are the column blocks of the matrix, -/
theorem col_disjoint (p q : Dev nD) (h : p ≠ q) : Disjoint (colR p).set (colR q).set := by
  refine Rect.unit_disjoint 1 ?_
  have : p.val ≠ q.val := fun e => h (Fin.ext e)
  show 512 * p.val + 512 ≤ 512 * q.val ∨ 512 * q.val + 512 ≤ 512 * p.val
  omega
/-- the blocks of the staging buffer, -/
theorem blk_disjoint (p q : Dev nD) (h : p ≠ q) : Disjoint (blkR p).set (blkR q).set := by
  refine Rect.unit_disjoint 0 ?_
  have : p.val ≠ q.val := fun e => h (Fin.ext e)
  show p.val + 1 ≤ q.val ∨ q.val + 1 ≤ p.val
  omega
/-- and the slots of the matrix buffer. -/
theorem slot_disjoint (p q : Fin 4) (h : p ≠ q) : Disjoint (slotR p).set (slotR q).set := by
  refine Rect.unit_disjoint 0 ?_
  have : p.val ≠ q.val := fun e => h (Fin.ext e)
  show p.val + 1 ≤ q.val ∨ q.val + 1 ≤ p.val
  omega

/-- The number of the row block an index of the result lies in, -/
def rowDev (i : S4096x512.Idx) : Dev nD := ⟨(i 0).val / 256, by have : (i 0).val < 4096 := (i 0).isLt; show _ < 16; omega⟩
/-- and its place there. -/
def rowAt (i : S4096x512.Idx) : S256x512.Idx := fun a =>
  match a with
  | ⟨0, _⟩ => ⟨(i 0).val % 256, Nat.mod_lt _ (by decide)⟩
  | ⟨1, _⟩ => i 1

/-- An index is its place in its row block. -/
theorem row_split (i : S4096x512.Idx) : (rowR (rowDev i)).emb (rowAt i) = i := by
  funext a; apply Fin.ext; rw [Rect.emb_apply]
  match a with
  | ⟨0, _⟩ => show 256 * ((i 0).val / 256) + 1 * ((i 0).val % 256) = (i 0).val; omega
  | ⟨1, _⟩ => show 0 + 1 * (i 1).val = (i 1).val; omega
/-- An index of row block `p` lies in row block `p`, -/
theorem rowDev_emb (p : Dev nD) (j : S256x512.Idx) : rowDev ((rowR p).emb j) = p := by
  have : (j 0).val < 256 := (j 0).isLt
  apply Fin.ext; show (256 * p.val + 1 * (j 0).val) / 256 = p.val; omega
/-- at the place it came from. -/
theorem rowAt_emb (p : Dev nD) (j : S256x512.Idx) : rowAt ((rowR p).emb j) = j := by
  have : (j 0).val < 256 := (j 0).isLt
  funext a; apply Fin.ext
  match a with
  | ⟨0, _⟩ => show (256 * p.val + 1 * (j 0).val) % 256 = (j 0).val; omega
  | ⟨1, _⟩ => show 0 + 1 * (j 1).val = (j 1).val; omega

/-- The row blocks make up the result, -/
theorem row_cover : (Finset.univ : Finset (Dev nD)).biUnion (fun p => (rowR p).set) = Finset.univ := by
  ext i; simp only [Finset.mem_biUnion, Finset.mem_univ, true_and, iff_true]
  refine ⟨rowDev i, ?_⟩
  rw [← Rect.map_emb_univ, Finset.mem_map]
  exact ⟨rowAt i, Finset.mem_univ _, row_split i⟩
/-- the column blocks the matrix, -/
theorem col_cover : (Finset.univ : Finset (Dev nD)).biUnion (fun p => (colR p).set) = Finset.univ := by
  ext i; simp only [Finset.mem_biUnion, Finset.mem_univ, true_and, iff_true]
  have h1 : (i 1).val < 8192 := (i 1).isLt
  have h0 : (i 0).val < 4096 := (i 0).isLt
  refine ⟨⟨(i 1).val / 512, by show _ < 16; omega⟩, Rect.mem_set_unit.mpr fun a => ?_⟩
  match a with
  | ⟨0, _⟩ => show 0 ≤ (i 0).val ∧ (i 0).val < 0 + 4096; omega
  | ⟨1, _⟩ => show 512 * ((i 1).val / 512) ≤ (i 1).val ∧ (i 1).val < 512 * ((i 1).val / 512) + 512; omega
/-- the blocks the staging buffer, -/
theorem blk_cover : (Finset.univ : Finset (Dev nD)).biUnion (fun p => (blkR p).set) = Finset.univ := by
  ext i; simp only [Finset.mem_biUnion, Finset.mem_univ, true_and, iff_true]
  have h0 : (i 0).val < 16 := (i 0).isLt
  have h1 : (i 1).val < 256 := (i 1).isLt
  have h2 : (i 2).val < 512 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 256; omega
  | ⟨2, _⟩ => show 0 ≤ (i 2).val ∧ (i 2).val < 0 + 512; omega
/-- and the slots the matrix buffer. -/
theorem slot_cover : (Finset.univ : Finset (Fin 4)).biUnion (fun p => (slotR p).set) = Finset.univ := by
  ext i; simp only [Finset.mem_biUnion, Finset.mem_univ, true_and, iff_true]
  have h0 : (i 0).val < 4 := (i 0).isLt
  have h1 : (i 1).val < 4096 := (i 1).isLt
  have h2 : (i 2).val < 512 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 4096; omega
  | ⟨2, _⟩ => show 0 ≤ (i 2).val ∧ (i 2).val < 0 + 512; omega

/-! ## Cutting and joining with any contents -/

/-- Contents given part by part are the parts of one contents. -/
theorem glue {s : Shape} {V T : Type} [Nonempty V] (r : T → Rect s) (hd : ∀ t t', t ≠ t' → Disjoint (r t).set (r t').set)
    (Y : ∀ t, (r t).shape.Idx → V) : ∃ X : s.Idx → V, ∀ t j, X ((r t).emb j) = Y t j := by
  classical
  have inj : ∀ p q : (t : T) × (r t).shape.Idx, (r p.1).emb p.2 = (r q.1).emb q.2 → p = q := by
    rintro ⟨t, j⟩ ⟨t', j'⟩ h
    have ht : t = t' := by
      by_contra hn
      have hm : ∀ (u : T) (i : (r u).shape.Idx), (r u).emb i ∈ (r u).set := fun u i => by
        rw [← Rect.map_emb_univ]; exact Finset.mem_map_of_mem _ (Finset.mem_univ i)
      exact Finset.disjoint_left.mp (hd t t' hn) (hm t j) (by rw [show (r t).emb j = (r t').emb j' from h]; exact hm t' j')
    subst ht
    exact Sigma.ext rfl (heq_of_eq ((r t).emb.injective h))
  refine ⟨fun i => if h : ∃ p : (t : T) × (r t).shape.Idx, (r p.1).emb p.2 = i then Y h.choose.1 h.choose.2 else Classical.arbitrary V,
    fun t j => ?_⟩
  have h : ∃ p : (t : T) × (r t).shape.Idx, (r p.1).emb p.2 = (r t).emb j := ⟨⟨t, j⟩, rfl⟩
  refine (dif_pos h).trans ?_
  have e := inj h.choose ⟨t, j⟩ h.choose_spec
  rw [e]

omit [FloatOps F] in
/-- Forgetting what a part holds. -/
theorem own_any (c : Dev nD) {sp : Space} {s : Shape} {e : EltTy} (M : Memref sig .tc sp s e) (X : s.Idx → Elt F e) : own c M X ⊢ ownAny F c M := by
  iintro H; iexists _; iexact H

section Any

variable (c : Dev nD) {sp : Space} {s : Shape} {e : EltTy} (M : Memref sig .tc sp s e) {T : Type} [Fintype T] [DecidableEq T] (r : T → Rect s)
  (hr : ∀ t a, (r t).stride a = 1) (hd : ∀ t t', t ≠ t' → Disjoint (r t).set (r t').set)
  (hcov : (Finset.univ : Finset T).biUnion (fun t => (r t).set) = Finset.univ)
include hd hcov

omit [DecidableEq T] [FloatOps F] in
/-- A buffer with any contents falls into its parts, -/
theorem cut_any : ownAny F c M ⊢ bigSep Finset.univ fun t => ownAny F c (M.slice (r t) (hr t)) := by
  iintro ⟨%X, H⟩
  ihave H := (owns_rects (c : Thread nD τ) M fullShare r hr hd hcov X) $$ H
  iapply (show (bigSep Finset.univ fun t => own c (M.slice (r t) (hr t)) (fun j => X ((r t).emb j)))
      ⊢ bigSep Finset.univ fun t => ownAny F c (M.slice (r t) (hr t)) from bigSep_mono fun t _ => own_any c _ _) $$ H

/-- and the parts make up the buffer. -/
theorem join_any : (bigSep Finset.univ fun t => ownAny F c (M.slice (r t) (hr t))) ⊢ ownAny F c M := by
  iintro H
  ihave H := (bigSep_exists_pi Finset.univ fun t (X : (r t).shape.Idx → Elt F e) => own c (M.slice (r t) (hr t)) X) $$ H
  icases H with ⟨%Y, H⟩
  obtain ⟨X, hX⟩ := glue r hd Y
  iexists X
  iapply (owns_of_rects (c : Thread nD τ) M fullShare r hr hd hcov X)
  rw [show (fun t => own c (M.slice (r t) (hr t)) (fun j => X ((r t).emb j))) = fun t => own c (M.slice (r t) (hr t)) (Y t) from
    funext fun t => congrArg (own c (M.slice (r t) (hr t))) (funext fun j => hX t j)]
  iexact H

end Any

/-! ## The buffers of the kernel -/

variable (m : (ℓ : Loc nD τ sig) → Buf (Elt F) ℓ) (c : Dev nD)

/-- A device's whole result: row block `p` is the block device `p` computed for it. -/
def outX : S4096x512.Idx → Elt F .bf16 := fun i => chunk m (rowDev i) c (rowAt i)

/-- Row block `p` of the result is what device `p` computed for this device. -/
theorem outX_row (p : Dev nD) : (fun j => outX m c ((rowR p).emb j)) = chunk m p c := by
  funext j; show chunk m (rowDev _) c (rowAt _) = _; rw [rowDev_emb, rowAt_emb]

/-- Row blocks joined. -/
theorem rows_join : (bigSep Finset.univ fun p => own c (rowM p) (chunk m p c)) ⊢ own c oM (outX m c) := by
  rw [bigSep_congr fun p _ => congrArg (own c (rowM p)) (outX_row m c p).symm]
  exact owns_of_rects (c : Thread nD τ) oM fullShare rowR (fun _ _ => rfl) row_disjoint row_cover (outX m c)

omit [FloatOps F] in
/-- Column blocks cut from the whole matrix, -/
theorem cols_cut : iprop((c : Thread nD τ).loc main_arg1 ↦{fullShare} m ((c : Thread nD τ).loc main_arg1))
    ⊢ (bigSep Finset.univ fun p => own c (colM p) (colW m c p) : sProp 𝕄) := by
  rw [← owns_whole]
  exact owns_rects (c : Thread nD τ) wM fullShare colR (fun _ _ => rfl) col_disjoint col_cover (m ((c : Thread nD τ).loc main_arg1))

/-- and joined. -/
theorem cols_join : (bigSep Finset.univ fun p => own c (colM p) (colW m c p) : sProp 𝕄)
    ⊢ iprop((c : Thread nD τ).loc main_arg1 ↦{fullShare} m ((c : Thread nD τ).loc main_arg1)) := by
  rw [← owns_whole]
  exact owns_of_rects (c : Thread nD τ) wM fullShare colR (fun _ _ => rfl) col_disjoint col_cover (m ((c : Thread nD τ).loc main_arg1))

/-- A whole buffer with any contents. -/
def scr (F : FTy → Type) (c : Dev nD) (b : Ref sig .tc) : sProp (Res F) := iprop(∃ f : Buf (Elt F) ((c : Thread nD τ).loc b), (c : Thread nD τ).loc b ↦{fullShare} f)

omit [FloatOps F] in
/-- A scratch buffer is a buffer with any contents. -/
theorem scr_any (b : Ref sig .tc) : scr F c b = ownAny F c (Memref.whole b) := by
  unfold scr ownAny own
  simp only [owns_whole]

end Cert.KernelProof

end
-- ==== Proof.Stages.lean ====
/-
# Dealing the buffers out to the phases of the body and taking them back
-/
module

public import proofs.«01_k».proof.Proof.Parts

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => Res F

variable (m : (ℓ : Loc nD τ sig) → Buf (Elt F) ℓ) (c : Dev nD)

/-- The device's whole matrix. -/
def wHeld : sProp 𝕄 := iprop((c : Thread nD τ).loc main_arg1 ↦{fullShare} m ((c : Thread nD τ).loc main_arg1))

/-- The semaphores of the four slots at zero. -/
def slotSems (F : FTy → Type) (c : Dev nD) : sProp (Res F) := bigSep Finset.univ fun s : Fin 4 => semVal ((c : Thread nD τ), .dma (wsem s)) 0

omit [FloatOps F] in
/-- Free slots, by slot. -/
theorem free_slots (a : ℕ) (ha : a = 0 ∨ a = 16) : bigSep (Finset.Ico a (a + 4)) (freeAt F c)
    = iprop((bigSep Finset.univ fun s => ownAny F c (slotM s)) ∗ slotSems F c) := by
  unfold slotSems
  rw [← bigSep_sep', slots_run a ha]
  rfl

omit [FloatOps F] in
/-- All columns, by device. -/
theorem all_cols : bigSep (Finset.Ico 0 16) (colAt m c) = bigSep Finset.univ fun p => own c (colM p) (colW m c p) :=
  (all_tgt c fun p => own c (colM p) (colW m c p)).symm

/-- Before the first copy. -/
theorem pipe_start : iprop(wHeld m c ∗ scr F c cc0_scratch1 ∗ slotSems F c) ⊢ pipe m c 0 0 := by
  unfold pipe
  rw [Finset.Ico_self, bigSep_empty, bigSep_empty, free_slots c 0 (.inl rfl), all_cols, scr_any]
  iintro ⟨HW, Hs, Hv⟩
  isplitl [HW]; · unfold wHeld; iapply (cols_cut m c) $$ HW
  isplitr; · iempintro
  isplitl [Hs Hv]
  · isplitl [Hs]; · iapply (cut_any c wbM slotR (fun _ _ => rfl) slot_disjoint slot_cover) $$ Hs
    iexact Hv
  iempintro

/-- After the last. -/
theorem pipe_end : pipe m c 16 16 ⊢ iprop(wHeld m c ∗ scr F c cc0_scratch1 ∗ slotSems F c) := by
  unfold pipe
  rw [Finset.Ico_self, bigSep_empty, bigSep_empty, free_slots c 16 (.inr rfl), all_cols, scr_any]
  iintro ⟨-, -, ⟨Hs, Hv⟩, HW⟩
  isplitl [HW]; · unfold wHeld; iapply (cols_join m c) $$ HW
  isplitl [Hs]; · iapply (show (bigSep Finset.univ fun s => ownAny F c (slotM s)) ⊢ ownAny F c wbM from
      join_any c wbM slotR (fun _ _ => rfl) slot_disjoint slot_cover) $$ Hs
  iexact Hv

/-- The duties a device pays: its signals, -/
def barToks (F : FTy → Type) (c : Dev nD) : sProp (Res F) := bigSep (Finset.univ.erase c) fun d => dutyTok ER (barCell d) 0 c
/-- the departures of its copies -/
def sendToks (F : FTy → Type) (c : Dev nD) : sProp (Res F) := bigSep (Finset.univ.erase c) fun d => dutyTok ER (sendCell c) 0 d
/-- and their arrivals. -/
def recvToks (F : FTy → Type) (c : Dev nD) : sProp (Res F) := bigSep (Finset.univ.erase c) fun d => dutyTok ER (recvCell d) 0 c

/-- The rows of its result: its own block stays, every other is handed to the device that is to write it. -/
theorem rows_start : iprop(ownAny F c oM ∗ barToks F c)
    ⊢ iprop(ownAny F c (rowM c) ∗ bigSep (Finset.Ico 0 15) fun i => hand F c (nth c i)) := by
  iintro ⟨Ho, Ht⟩
  ihave Ho := (cut_any c oM rowR (fun _ _ => rfl) row_disjoint row_cover) $$ Ho
  ihave Ho := (Entails.of_eq (bigSep_univ_at (fun p => ownAny F c (oM.slice (rowR p) (fun _ => rfl))) c)) $$ Ho
  icases Ho with ⟨Hc, Ho⟩
  isplitl [Hc]; · iexact Hc
  rw [← others_nth c (hand F c), show hand F c = fun p => iprop(dutyTok ER (barCell p) 0 c ∗ ownAny F c (rowM p)) from rfl, bigSep_sep']
  isplitl [Ht]; · unfold barToks; iexact Ht
  iexact Ho

/-- What the steps send with, once the handshake is over. -/
theorem items_start : iprop(scr F c cc0_scratch2 ∗ sendToks F c ∗ recvToks F c ∗ bigSep (Finset.Ico 0 15) fun i => ownAny F (tgt c i) (rowM c))
    ⊢ iprop(ownAny F c (blkM c) ∗ bigSep (Finset.Ico 0 15) fun i => item F c (tgt c i)) := by
  rw [← others_tgt c fun p => ownAny F p (rowM c), ← others_tgt c (item F c),
    show item F c = fun p => iprop(ownAny F c (blkM p) ∗ ownAny F p (rowM c) ∗ dutyTok ER (sendCell c) 0 p ∗ dutyTok ER (recvCell p) 0 c) from rfl,
    bigSep_sep', bigSep_sep', bigSep_sep']
  rw [scr_any]
  iintro ⟨Hs, Ht, Hu, Hr⟩
  ihave Hs := (cut_any c sM blkR (fun _ _ => rfl) blk_disjoint blk_cover) $$ Hs
  ihave Hs := (Entails.of_eq (bigSep_univ_at (fun p => ownAny F c (sM.slice (blkR p) (fun _ => rfl))) c)) $$ Hs
  icases Hs with ⟨Hc, Hs⟩
  isplitl [Hc]; · iexact Hc
  isplitl [Hs]; · iexact Hs
  isplitl [Hr]; · iexact Hr
  isplitl [Ht]; · unfold sendToks; iexact Ht
  unfold recvToks; iexact Hu

/-- All rows are there at the end. -/
theorem rows_end : iprop(own c (rowM c) (chunk m c c) ∗ bigSep ((xch m).duties (recvCell c) 0) fun d => (xch m).payload (recvCell c) 0 d)
    ⊢ own c oM (outX m c) := by
  rw [duties_recv, bigSep_congr fun d _ => payload_recv m c d]
  iintro ⟨Hc, Hr⟩
  iapply (rows_join m c)
  iapply (Entails.of_eq (bigSep_univ_at (fun p => own c (rowM p) (chunk m p c)) c).symm)
  isplitl [Hc] <;> iassumption

/-- And all staging blocks. -/
theorem blks_end : iprop(ownAny F c (blkM c) ∗ bigSep ((xch m).duties (sendCell c) 0) fun d => (xch m).payload (sendCell c) 0 d)
    ⊢ scr F c cc0_scratch2 := by
  rw [duties_send, bigSep_congr fun d _ => payload_send m c d, scr_any]
  iintro ⟨Hc, Hr⟩
  iapply (join_any c sM blkR (fun _ _ => rfl) blk_disjoint blk_cover)
  iapply (Entails.of_eq (bigSep_univ_at (fun p => ownAny F c (blkM p)) c).symm)
  isplitl [Hc] <;> iassumption

/-- Nothing has been collected yet. -/
theorem got_start (g : GSem nD τ sig) : (atPos ER g 0 ∅ 0 : sProp 𝕄) ⊢ got m g 0 := by
  unfold got
  iintro H
  iexists ∅
  isplitr; · ipureintro; exact Finset.empty_subset _
  rw [Nat.zero_mul, bigSep_empty]
  isplitl [H]; · iexact H
  iempintro

end Cert.KernelProof

end
-- ==== Proof.Body.lean ====
/-
# The body of the kernel on one device
-/
module

public import proofs.«01_k».proof.Proof.Stages

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => Res F

variable (m : (ℓ : Loc nD τ sig) → Buf (Elt F) ℓ) (c : Dev nD)

/-- What a device starts the body with besides its scratch buffers and its windows. -/
def given (K : Dev nD × Fin 3 → ℕ) : sProp 𝕄 :=
  iprop(known m K ∗ levAts L lv
    ∗ (atPos ER (barCell c) 0 ∅ 0 ∗ atPos ER (sendCell c) 0 ∅ 0 ∗ atPos ER (recvCell c) 0 ∅ 0)
    ∗ (barToks F c ∗ sendToks F c ∗ recvToks F c)
    ∗ (cred (tallyAt (barCell c) () 15) ∗ bigSep (Finset.Ico 0 15) fun _ => cred (tallyAt (recvCell c) () N))
    ∗ slotSems F c ∗ wHeld m c)

/-- Its scratch buffers, holding anything. -/
def scratch (F : FTy → Type) (c : Dev nD) : sProp (Res F) := iprop(scr F c cc0_scratch0 ∗ scr F c cc0_scratch1 ∗ scr F c cc0_scratch2)

/-- What it ends with: every semaphore at zero, the matrix unchanged. -/
def finish : sProp 𝕄 :=
  iprop((slotSems F c ∗ semVal (sendCell c) 0 ∗ semVal (recvCell c) 0) ∗ semVal (barCell c) 0 ∗ wHeld m c ∗ scratch F c)

/-- Its rows of `x`, as staged. -/
def xHeld : sProp 𝕄 := iprop((c : Thread nD τ).loc cc0_stg0_0 ↦{fullShare} xIn m c)

variable {Q : PUnit.{1} → sProp (Res F)} {k : Code F}

/-- Rounding the rows of `x` into their buffer. -/
theorem round_x : iprop(xHeld m c ∗ scr F c cc0_scratch0)
    ⊢ iprop(((xHeld m c ∗ xbHeld m c) -∗ wpK c k Q)
      -∗ wpK c (Prog.op (.load xM xR.toLoadRect (View.loadsAt_vmem h_S256x4096)) fun x =>
        Prog.op (.load xbM xR.toLoadRect (View.loadsAt_vmem h_S256x4096)) fun _ =>
        Prog.op (.store xbM xR (k0_pay2 x) Finset.univ (View.stores_vmem h_S256x4096 ((Memref.isWhole_whole cc0_scratch0).storeExact_slice rfl _ packedbf16_S256x4096_S256x4096_0_0) (fun _ => rfl)) (.inl rfl)) fun _ => k) Q) := by
  unfold xHeld scr xbHeld
  iintro ⟨Hx, ⟨%f, Hs⟩⟩ Hk
  iapply (wp_load 𝒱₀ (c : Thread nD τ) none Set.univ (m := xM) (S := Finset.univ) (f := xIn m c) (Finset.subset_univ _)) $$ Hx
  iintro Hx
  rw [show View.readAt (Elt F) xM.view xR.toLoadRect (xIn m c) = xIn m c from Memref.readAt_unit_zero _ cc0_stg0_0 xb_zero _ _]
  iapply (wp_load 𝒱₀ (c : Thread nD τ) none Set.univ (m := xbM) (S := Finset.univ) (f := f) (Finset.subset_univ _)) $$ Hs
  iintro Hs
  iapply (wp_store 𝒱₀ (c : Thread nD τ) none Set.univ (m := xbM) (r := xR) (Mk := Finset.univ) (S := Finset.univ) (f := f) (Finset.subset_univ _)) $$ Hs
  iintro Hs
  rw [show (xbM.access xR).write (Elt F) f (k0_pay2 (xIn m c)) Finset.univ = xb m c from
    Memref.write_access_unit_zero_univ _ cc0_scratch0 xb_zero _ _ _]
  iapply Hk
  isplitl [Hx] <;> iassumption

/-- From the first copy to the end of the handshake. -/
theorem handshake (K : Dev nD × Fin 3 → ℕ) :
    iprop(given m c K ∗ scratch F c ∗ xHeld m c ∗ ownAny F c oM ∗ owing F c (rcvOwed c 0 + barOwed c 0))
      ⊢ iprop(((between m c 0 ∗ got m (sendCell c) 0 ∗ got m (recvCell c) 0 ∗ (bigSep (Finset.Ico 0 15) fun _ => cred (tallyAt (recvCell c) () N))
            ∗ xHeld m c ∗ ownAny F c (rowM c) ∗ ownAny F c (blkM c) ∗ semVal (barCell c) 0) -∗ wpK c k Q)
          -∗ wpK c (fetchP c 0 <| fetchP c 1 <| fetchP c 2 <|
            Prog.op (.load xM xR.toLoadRect (View.loadsAt_vmem h_S256x4096)) fun x =>
            Prog.op (.load xbM xR.toLoadRect (View.loadsAt_vmem h_S256x4096)) fun _ =>
            Prog.op (.store xbM xR (k0_pay2 x) Finset.univ (View.stores_vmem h_S256x4096 ((Memref.isWhole_whole cc0_scratch0).storeExact_slice rfl _ packedbf16_S256x4096_S256x4096_0_0) (fun _ => rfl)) (.inl rfl)) fun _ =>
            signalsP c 15 0 <| Prog.op (.semWait barS (15#32).toInt) fun _ => k) Q) := by
  unfold given scratch
  iintro ⟨⟨#HK, #Hlev, ⟨HaB, HaS, HaR⟩, ⟨HtB, HtS, HtR⟩, ⟨HcB, HcR⟩, Hv, HW⟩, ⟨Hs0, Hs1, Hs2⟩, Hx, Ho, HO⟩ Hk
  ihave Hp := (pipe_start m c) $$ [HW Hs1 Hv]
  · isplitl [HW]; · iexact HW
    isplitl [Hs1] <;> iassumption
  ihave Hr := (rows_start c) $$ [Ho HtB]
  · isplitl [Ho] <;> iassumption
  icases Hr with ⟨Hown, Hh⟩
  iapply (fetch m c (lo := 0) (hi := 0) (by decide) (by decide) (by decide)) $$ Hp
  iintro Hp
  iapply (fetch m c (lo := 0) (hi := 1) (by decide) (by decide) (by decide)) $$ Hp
  iintro Hp
  iapply (fetch m c (lo := 0) (hi := 2) (by decide) (by decide) (by decide)) $$ Hp
  iintro Hp
  iapply (round_x m c) $$ [Hx Hs0]
  · isplitl [Hx] <;> iassumption
  iintro ⟨Hx, Hxb⟩
  iapply (signals m c K 15 0 rfl) $$ [Hh HO]
  · isplitr; · iexact HK
    isplitl [Hh] <;> iassumption
  iintro HO
  iapply (bar_wait m c K) $$ [HaB HcB HO]
  · isplitr; · iexact HK
    isplitr; · imodintro; iexact Hlev
    isplitl [HaB]; · iexact HaB
    isplitl [HcB] <;> iassumption
  iintro ⟨HvB, Hrows, HO⟩
  ihave Hi := (items_start c) $$ [Hs2 HtS HtR Hrows]
  · isplitl [Hs2]; · iexact Hs2
    isplitl [HtS]; · iexact HtS
    isplitl [HtR] <;> iassumption
  icases Hi with ⟨Hblk, Hi⟩
  iapply Hk
  isplitl [Hp Hxb Hi HO]
  · unfold between
    isplitl [Hp]; · iexact Hp
    isplitl [Hxb]; · iexact Hxb
    isplitl [Hi]; · iexact Hi
    isplitr; · rw [Finset.Ico_self, bigSep_empty]; iempintro
    iexact HO
  isplitl [HaS]; · iapply (got_start m (sendCell c)) $$ HaS
  isplitl [HaR]; · iapply (got_start m (recvCell c)) $$ HaR
  isplitl [HcR]; · iexact HcR
  isplitl [Hx]; · iexact Hx
  isplitl [Hown]; · iexact Hown
  isplitl [Hblk] <;> iassumption

/-- Everything after the device number and the scales are known. -/
theorem main_run (K : Dev nD × Fin 3 → ℕ) :
    iprop(given m c K ∗ scratch F c ∗ xHeld m c ∗ ownAny F c oM ∗ owing F c (rcvOwed c 0 + barOwed c 0))
      ⊢ iprop(((finish m c ∗ xHeld m c ∗ own c oM (outX m c) ∗ owing F c 0) -∗ Q ⟨⟩) -∗ wpK c (mainP c (scl m c)) Q) := by
  iintro ⟨Hg, Hs, Hx, Ho, HO⟩ Hk
  unfold mainP
  ihave Hg := (show given m c K ⊢ iprop((known m K ∗ levAts L lv) ∗ given m c K) by
    unfold given; iintro ⟨#HK, #Hlev, H⟩
    isplitr
    · isplitr; · iexact HK
      iexact Hlev
    isplitr; · iexact HK
    isplitr; · iexact Hlev
    iexact H) $$ Hg
  icases Hg with ⟨⟨#HK, #Hlev⟩, Hg⟩
  iapply (handshake m c K) $$ [Hg Hs Hx Ho HO]
  · isplitl [Hg]; · iexact Hg
    isplitl [Hs]; · iexact Hs
    isplitl [Hx]; · iexact Hx
    isplitl [Ho] <;> iassumption
  iintro ⟨Hb, HgS, HgR, HcR, Hx, Hown, Hblk, HvB⟩
  iapply (steps m c K 15 0 rfl) $$ [Hb]
  · isplitr; · iexact HK
    isplitr; · imodintro; iexact Hlev
    iexact Hb
  iintro Hb
  unfold between
  icases Hb with ⟨Hp, Hxb, -, HcS, HO⟩
  iapply (own_step m c) $$ [Hp Hxb Hown HO]
  · isplitr; · imodintro; iexact Hlev
    isplitl [Hp]; · iexact Hp
    isplitl [Hxb]; · iexact Hxb
    isplitl [Hown] <;> iassumption
  iintro ⟨Hp, Hxb, Hown, HO⟩
  ihave HO := (Entails.of_eq (show owing F c (rcvOwed c 15 + barOwed c 15) = owing F c 0 by rw [rcvOwed_done, barOwed_done, add_zero])) $$ HO
  iapply (recvs m c K 14 0 rfl) $$ [HgR HcR HO]
  · isplitr; · iexact HK
    isplitl [HgR]; · iexact HgR
    isplitl [HcR] <;> iassumption
  iintro ⟨HR, HO⟩
  iapply (sends m c K 14 0 rfl) $$ [HgS HcS HO]
  · isplitr; · iexact HK
    isplitl [HgS]; · iexact HgS
    isplitl [HcS] <;> iassumption
  iintro ⟨HS, HO⟩
  unfold collected
  icases HR with ⟨HvR, HR⟩
  icases HS with ⟨HvS, HS⟩
  ihave Hout := (rows_end m c) $$ [Hown HR]
  · isplitl [Hown] <;> iassumption
  ihave Hs2 := (blks_end m c) $$ [Hblk HS]
  · isplitl [Hblk] <;> iassumption
  ihave Hp := (pipe_end m c) $$ Hp
  icases Hp with ⟨HW, Hs1, Hv⟩
  unfold wpK; rw [wp_ret]; imodintro
  iapply Hk
  unfold finish scratch
  isplitl [HW Hs1 Hv HvR HvS HvB Hs2 Hxb]
  · isplitl [Hv HvS HvR]
    · isplitl [Hv]; · iexact Hv
      isplitl [HvS] <;> iassumption
    isplitl [HvB]; · iexact HvB
    isplitl [HW]; · iexact HW
    isplitl [Hxb]; · unfold scr xbHeld; iexists _; iexact Hxb
    isplitl [Hs1] <;> iassumption
  isplitl [Hx]; · iexact Hx
  isplitl [Hout] <;> iassumption

/-- The scales, as staged. -/
def scalesHeld : sProp 𝕄 :=
  iprop(((c : Thread nD τ).loc cc0_stg1_0 ↦{fullShare} sxIn m c) ∗ ((c : Thread nD τ).loc cc0_stg2_0 ↦{fullShare} swIn m c))

/-- The offset of a scale is zero. -/
theorem one_zero : (![0] : Fin S1.rank → ℕ) = fun _ => 0 := by decide

/-- The whole body. -/
theorem body_run (K : Dev nD × Fin 3 → ℕ) :
    iprop(given m c K ∗ scratch F c ∗ xHeld m c ∗ scalesHeld m c ∗ ownAny F c oM ∗ owing F c (rcvOwed c 0 + barOwed c 0))
      ⊢ iprop(((finish m c ∗ xHeld m c ∗ scalesHeld m c ∗ own c oM (outX m c) ∗ owing F c 0) -∗ Q ⟨⟩) -∗ wpK c bodyP Q) := by
  unfold scalesHeld
  iintro ⟨Hg, Hs, Hx, ⟨Ha, Hb⟩, Ho, HO⟩ Hk
  unfold bodyP wpK
  simp only [wp_deviceId]
  iapply (wp_load 𝒱₀ (c : Thread nD τ) none Set.univ (m := sxM) (S := Finset.univ) (f := sxIn m c) (Finset.subset_univ _)) $$ Ha
  iintro Ha
  rw [show View.readAt (Elt F) sxM.view oneR.toLoadRect (sxIn m c) = sxIn m c from Memref.readAt_unit_zero _ cc0_stg1_0 one_zero _ _]
  iapply (wp_load 𝒱₀ (c : Thread nD τ) none Set.univ (m := swM) (S := Finset.univ) (f := swIn m c) (Finset.subset_univ _)) $$ Hb
  iintro Hb
  rw [show View.readAt (Elt F) swM.view oneR.toLoadRect (swIn m c) = swIn m c from Memref.readAt_unit_zero _ cc0_stg2_0 one_zero _ _]
  iapply (main_run m c K) $$ [Hg Hs Hx Ho HO]
  · isplitl [Hg]; · iexact Hg
    isplitl [Hs]; · iexact Hs
    isplitl [Hx]; · iexact Hx
    isplitl [Ho] <;> iassumption
  iintro ⟨Hf, Hx, Ho, HO⟩
  iapply Hk
  isplitl [Hf]; · iexact Hf
  isplitl [Hx]; · iexact Hx
  isplitl [Ha Hb]
  · isplitl [Ha] <;> iassumption
  isplitl [Ho] <;> iassumption

end Cert.KernelProof

end
-- ==== Proof.Deal.lean ====
/-
# Dealing out the duties at the launch
-/
module

public import proofs.«01_k».proof.Proof.Body

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => Res F

variable (m : (ℓ : Loc nD τ sig) → Buf (Elt F) ℓ)

/-! ## The counters and their duties -/

/-- The semaphores of a launch: the four slots', and the two of the exchange. -/
abbrev osem : Fin 6 → SemLoc sig :=
  fun | 0 => .dma (wsem 0) | 1 => .dma (wsem 1) | 2 => .dma (wsem 2) | 3 => .dma (wsem 3) | 4 => .dma sendS | 5 => .dma recvS

/-- The kernel's own semaphores are distinct from the pipeline's. -/
theorem ownSemFacts : Pipeline.OwnSemFacts cfg0.spec osem := by decide

/-- The three counters of a device are different, -/
theorem csem_inj : Function.Injective csem := by decide

/-- and so are all devices'. -/
theorem kcell_injective : Function.Injective kcell := fun a b h =>
  Prod.ext (congrArg (fun g : GSem nD τ sig => g.1.1) h) (csem_inj (congrArg Prod.snd h))

/-- The counters of the exchange on all devices. -/
def cells : Finset (GSem nD τ sig) := Finset.univ.map ⟨kcell, kcell_injective⟩

/-- A duty: a counter and the device that has it (or for which it stands). -/
abbrev tokOf (x : (Dev nD × Fin 3) × Dev nD) : GSem nD τ sig × ℕ × Dev nD := (kcell x.1, 0, x.2)

/-- Different duties have different tokens. -/
theorem tokOf_injective : Function.Injective tokOf := fun a b h =>
  Prod.ext (kcell_injective (congrArg Prod.fst h)) (congrArg (fun x => x.2.2) h)

/-- All the tokens of the exchange. -/
def toks : Finset (GSem nD τ sig × ℕ × Dev nD) := Finset.univ.map ⟨tokOf, tokOf_injective⟩

/-- The duties at a device's three counters. -/
def ownToks (F : FTy → Type) (c : Dev nD) : sProp (Res F) :=
  iprop((bigSep (Finset.univ.erase c) fun d => dutyTok ER (barCell c) 0 d) ∗ (bigSep (Finset.univ.erase c) fun d => dutyTok ER (sendCell c) 0 d)
    ∗ bigSep (Finset.univ.erase c) fun d => dutyTok ER (recvCell c) 0 d)

omit [FloatOps F] in
/-- Something for each of the three counters is three things. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- A device's share of the launch element. -/
def G (c : Dev nD) : sProp 𝕄 :=
  iprop((bigSep Finset.univ fun k => roundState ER (xch m) (kcell (c, k)) 0)
    ∗ (bigSep Finset.univ fun k => iprop(atPos ER (kcell (c, k)) 0 ∅ 0 ∗ reached ER (kcell (c, k)) 0)) ∗ ownToks F c)

/-- What it makes of it: what every device knows, its own positions, and the duties it is to pay. -/
def G' (c : Dev nD) : sProp 𝕄 :=
  iprop(∃ K, known m K ∗ (atPos ER (barCell c) 0 ∅ 0 ∗ atPos ER (sendCell c) 0 ∅ 0 ∗ atPos ER (recvCell c) 0 ∅ 0)
    ∗ (barToks F c ∗ sendToks F c ∗ recvToks F c) ∗ slotSems F c)

omit [FloatOps F] in
/-- The tokens of a device's three counters, sorted by counter. -/
theorem own_toks (c : Dev nD) :
    (bigSep Finset.univ fun k : Fin 3 => bigSep Finset.univ fun d : Dev nD => dutyTok ER (kcell (c, k)) 0 d) ⊢ ownToks F c := by
  rw [bigSep_three]
  exact sep_mono (bigSep_subset (Finset.erase_subset _ _)) (sep_mono (bigSep_subset (Finset.erase_subset _ _)) (bigSep_subset (Finset.erase_subset _ _)))

/-- The launch element of the exchange, dealt to the devices. -/
theorem fund : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : Fin 3 => Φ (kcell (c, k)) := by
    unfold cells; rw [bigSep_map, bigSep_univ_prod]; rfl
  have hT : bigSep toks (fun x => (dutyTok ER x.1 x.2.1 x.2.2 : sProp 𝕄)) ⊢ bigSep Finset.univ (ownToks F) := by
    unfold toks; rw [bigSep_map, bigSep_univ_prod, bigSep_univ_prod]
    exact bigSep_mono fun c _ => own_toks c
  iintro HX
  imod (Rounds.fund ER (xch m) cells toks) $$ HX with ⟨Hst, Hr, Hat, Htok⟩
  imodintro
  ihave Hst := (Entails.of_eq (hX fun g => roundState ER (xch m) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat] <;> iassumption
  iexact Htok

/-! ## The semaphores -/

omit [FloatOps F] in
/-- The four copy semaphores, one by one; -/
theorem slotSems_eq (c : Dev nD) : slotSems F c = iprop(semVal ((c : Thread nD τ), .dma (wsem 0)) 0 ∗ semVal ((c : Thread nD τ), .dma (wsem 1)) 0
    ∗ semVal ((c : Thread nD τ), .dma (wsem 2)) 0 ∗ semVal ((c : Thread nD τ), .dma (wsem 3)) 0) :=
  bigSep_univ_eq_bigSepL [0, 1, 2, 3] (by decide) (by decide) _

omit [FloatOps F] in
/-- all the kernel's own semaphores, one by one; -/
theorem ownSems_eq (c : Dev nD) : (Pipeline.ownSems0 (Ix := Unit) (Name := ℕ) (U := UU) (Lvl := ℕ) (Val := Elt F) (τ := τ) osem c : sProp 𝕄)
    = iprop(semVal ((c : Thread nD τ), .dma (wsem 0)) 0 ∗ semVal ((c : Thread nD τ), .dma (wsem 1)) 0
      ∗ semVal ((c : Thread nD τ), .dma (wsem 2)) 0 ∗ semVal ((c : Thread nD τ), .dma (wsem 3)) 0 ∗ semVal (sendCell c) 0 ∗ semVal (recvCell c) 0) := by
  rw [Pipeline.ownSems0_eq_of_list c osem [0, 1, 2, 3, 4, 5] (by decide) (by decide)]; rfl

omit [FloatOps F] in
/-- and the barrier semaphore. -/
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at the start: its slots', and its three counters. -/
theorem sems_start (c : Dev nD) :
    iprop(Pipeline.ownSems0 (Ix := Unit) (Name := ℕ) (U := UU) (Lvl := ℕ) (Val := Elt F) (τ := τ) osem c ∗ unscopedSems0 c)
      ⊢ (iprop(slotSems F c ∗ bigSep Finset.univ fun k : Fin 3 => semVal (kcell (c, k)) 0) : sProp 𝕄) := by
  rw [ownSems_eq, unscopedSems_eq, bigSep_three, slotSems_eq]
  iintro ⟨⟨H0, H1, H2, H3, HS, HR⟩, HB⟩
  isplitl [H0 H1 H2 H3]
  · isplitl [H0]; · iexact H0
    isplitl [H1]; · iexact H1
    isplitl [H2] <;> iassumption
  isplitl [HB]; · iexact HB
  isplitl [HS] <;> iassumption

omit [FloatOps F] in
/-- And at the end. -/
theorem sems_end (c : Dev nD) : iprop(slotSems F c ∗ semVal (sendCell c) 0 ∗ semVal (recvCell c) 0)
      ⊢ (Pipeline.ownSems0 (Ix := Unit) (Name := ℕ) (U := UU) (Lvl := ℕ) (Val := Elt F) (τ := τ) osem c : sProp 𝕄) := by
  rw [ownSems_eq, slotSems_eq]
  iintro ⟨⟨H0, H1, H2, H3⟩, HS, HR⟩
  isplitl [H0]; · iexact H0
  isplitl [H1]; · iexact H1
  isplitl [H2]; · iexact H2
  isplitl [H3]; · iexact H3
  isplitl [HS] <;> iassumption

/-! ## The global step -/

/-- One device puts its three counters under the schedule. -/
theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xch m) κ (kcell (c, k))))
          ∗ (bigSep Finset.univ fun k => iprop(atPos ER (kcell (c, k)) 0 ∅ 0 ∗ reached ER (kcell (c, k)) 0)) ∗ ownToks F c ∗ slotSems F c) := by
  unfold G
  iintro ⟨Hos, Hus, Hst, Hat, Htok⟩
  ihave Hv := (sems_start (F := F) c) $$ [Hos Hus]
  · isplitl [Hos] <;> iassumption
  icases Hv with ⟨Hsl, Hv⟩
  imod (show iprop((bigSep Finset.univ fun k : Fin 3 => semVal (kcell (c, k)) 0) ∗ bigSep Finset.univ fun k : Fin 3 => roundState ER (xch m) (kcell (c, k)) 0)
      ⊢ (|={Set.univ}=> bigSep Finset.univ fun k => iprop(∃ κ : ℕ, cellInv ER (xch m) κ (kcell (c, k))) : sProp 𝕄) from by
        rw [← bigSep_sep']
        exact (bigSep_mono fun k _ => (Rounds.body_intro ER (xch m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
/-- The duties go from the devices whose counters they are at to the devices that pay them. -/
theorem toks_redeal : bigSep Finset.univ (ownToks F) = bigSep Finset.univ fun c => iprop(barToks F c ∗ sendToks F c ∗ recvToks F c) := by
  unfold ownToks barToks sendToks recvToks
  rw [bigSep_sep', bigSep_sep', bigSep_sep', bigSep_sep', bigSep_erase_comm fun c d => (dutyTok ER (barCell c) 0 d : sProp 𝕄),
    bigSep_erase_comm fun c d => (dutyTok ER (recvCell c) 0 d : sProp 𝕄)]

omit [FloatOps F] in
/-- What all know, each may use. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device keeps for itself. -/
def kept (F : FTy → Type) (c : Dev nD) : sProp (Res F) :=
  iprop((bigSep Finset.univ fun k => atPos ER (kcell (c, k)) 0 ∅ 0) ∗ (barToks F c ∗ sendToks F c ∗ recvToks F c) ∗ slotSems F c)

omit [FloatOps F] in
/-- What all devices get from the launch, dealt out by device. -/
theorem kept_all : iprop((bigSep Finset.univ fun c : Dev nD => bigSep Finset.univ fun k : Fin 3 => atPos ER (kcell (c, k)) 0 ∅ 0)
      ∗ (bigSep Finset.univ fun c => iprop(barToks F c ∗ sendToks F c ∗ recvToks F c)) ∗ bigSep Finset.univ (slotSems F))
    ⊢ (bigSep Finset.univ (kept F) : sProp 𝕄) :=
  Entails.of_eq (by rw [← bigSep_sep', ← bigSep_sep']; rfl)

/-- With the invariants known, that is what a device starts from. -/
theorem kept_known (K : Dev nD × Fin 3 → ℕ) (c : Dev nD) : iprop(known m K ∗ kept F c) ⊢ G' m c := by
  unfold kept G'
  rw [bigSep_three]
  iintro ⟨HK, H⟩
  iexists K
  isplitl [HK]; · iexact HK
  iexact H

/-- From what each device allocated to what each starts with. -/
theorem regroup :
    (bigSep Finset.univ fun c : Dev nD => iprop((bigSep Finset.univ fun k => iprop(∃ κ : ℕ, cellInv ER (xch m) κ (kcell (c, k))))
          ∗ (bigSep Finset.univ fun k => iprop(atPos ER (kcell (c, k)) 0 ∅ 0 ∗ reached ER (kcell (c, k)) 0)) ∗ ownToks F c ∗ slotSems F c) : sProp 𝕄)
      ⊢ bigSep Finset.univ (G' m) := by
  rw [bigSep_sep', bigSep_sep', bigSep_sep', ← bigSep_univ_prod (fun ck : Dev nD × Fin 3 => iprop(∃ κ : ℕ, cellInv ER (xch m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄)),
    show (bigSep Finset.univ fun c => ownToks F c) = _ from toks_redeal]
  iintro ⟨HI, ⟨Hat, #HR⟩, Htok, Hsl⟩
  ihave HK := (BI.bigSep_exists_pi Finset.univ (fun (ck : Dev nD × Fin 3) (κ : ℕ) => (cellInv ER (xch m) κ (kcell ck) : sProp 𝕄))) $$ HI
  icases HK with ⟨%K, #HI⟩
  iapply (bigSep_with (R := known m K) (Φ := kept F) fun c _ => kept_known m K c)
  isplitr
  · unfold known; isplitl; · iexact HI
    iexact HR
  · iapply (kept_all (F := F))
    isplitl [Hat]; · iexact Hat
    isplitl [Htok] <;> iassumption

/-- The semaphores and launch shares of all devices, turned into what each starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_alloc m c).trans (bigSep_fupd _ _)).trans (BI.fupd_mono (regroup m))

/-- The launch element: the pipeline's part, the exchange's part, and no counters. -/
def u₀ : UU := (initOf (Pipeline.cells cfgs cellOf_inj) (Pipeline.launchToks cfgs cellOf_inj), (initOf cells toks, (1 : Counters)))

/-- The ghost state at the launch splits into the pipeline's and every device's part of the exchange. -/
theorem launch_split : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (show BI.own (embR (initOf cells toks, (1 : Counters))) ⊢ (|==> bigSep Finset.univ (G m) : sProp 𝕄) from fund m) $$ HX with HG
  imodintro
  isplitl [HP] <;> iassumption

end Cert.KernelProof

end
-- ==== Proof.Credit.lean ====
/-
# What the launch credits a device with
-/
module

public import proofs.«01_k».proof.Proof.Stages

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => Res F

/-! ## The debts, counter by counter -/

/-- A device signals every other device once, -/
theorem nth_count : ∀ d c : Dev nD, (∑ i ∈ Finset.Ico 0 15, if c = nth d i then 1 else 0) = if d = c then 0 else 1 := by decide +kernel
/-- sends every other device one copy, -/
theorem tgt_count : ∀ d c : Dev nD, (∑ i ∈ Finset.Ico 0 15, if c = tgt d i then 1 else 0) = if d = c then 0 else 1 := by decide +kernel
/-- and every device has fifteen others. -/
theorem other_count : ∀ c : Dev nD, (∑ d : Dev nD, if d = c then 0 else 1) = 15 := by decide +kernel

/-- Different devices have different barrier counters, -/
theorem bar_eq_iff {a b : Dev nD} : barCell a = barCell b ↔ a = b :=
  ⟨fun h => congrArg (fun g : GSem nD τ sig => g.1.1) h, fun h => h ▸ rfl⟩
/-- and different receive counters. -/
theorem recv_eq_iff {a b : Dev nD} : recvCell a = recvCell b ↔ a = b :=
  ⟨fun h => congrArg (fun g : GSem nD τ sig => g.1.1) h, fun h => h ▸ rfl⟩

/-- At the launch a device owes every other device's barrier counter one unit, -/
theorem owed_bar (d c : Dev nD) : owed₀ d (barCell c) () = if d = c then 0 else 1 := by
  unfold owed₀ rcvOwed barOwed
  rw [Pi.add_apply, Finsupp.add_apply, sum_tally_apply, sum_tally_apply,
    Finset.sum_eq_zero fun i _ => if_neg fun h => recv_ne_bar (congrArg Prod.snd h).symm, zero_add, ← nth_count]
  exact Finset.sum_congr rfl fun i _ => if_congr bar_eq_iff rfl rfl

/-- and every other device's receive counter one block. -/
theorem owed_recv (d c : Dev nD) : owed₀ d (recvCell c) () = N * if d = c then 0 else 1 := by
  unfold owed₀ rcvOwed barOwed
  rw [Pi.add_apply, Finsupp.add_apply, sum_tally_apply, sum_tally_apply,
    Finset.sum_eq_zero (s := Finset.Ico 0 15) (f := fun i => if recvCell c = barCell (nth d i) then 1 else 0)
      fun i _ => if_neg fun h => recv_ne_bar (congrArg Prod.snd h), add_zero, ← tgt_count, Finset.mul_sum]
  exact Finset.sum_congr rfl fun i _ => by rw [mul_ite, mul_one, mul_zero]; exact if_congr recv_eq_iff rfl rfl

/-! ## The credit -/

/-- So a barrier counter is owed 15 units by all devices together, -/
theorem launch_bar (c : Dev nD) :
    tallyOn (barCell c) (launchCredit (Pipeline.owing owed₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, other_count]

/-- and a receive counter 15 blocks. -/
theorem launch_recv (c : Dev nD) :
    tallyOn (recvCell c) (launchCredit (Pipeline.owing owed₀) 0 (recvCell c)) = (tallyAt (recvCell c) () (15 * N) : CellTallies nD τ sig Unit) := by
  unfold tallyAt; refine congrArg _ (Finsupp.ext fun u => ?_); cases u
  rw [Pipeline.launchCredit_owing, Finsupp.single_eq_same, Finset.sum_congr rfl fun d _ => owed_recv d c, ← Finset.mul_sum, other_count, mul_comm]

omit [FloatOps F] in
/-- A credit for several copies is a credit for each. -/
theorem cred_each (g : GSem nD τ sig) (n k : ℕ) :
    (cred (tallyAt g () (k * n)) : sProp 𝕄) ⊢ bigSep (Finset.Ico 0 k) fun _ => cred (tallyAt g () n) := by
  induction k with
  | zero => rw [Nat.zero_mul, tallyAt_zero, cred_zero, Finset.Ico_self, bigSep_empty]; iintro -; iempintro
  | succ k ih =>
    rw [Nat.succ_mul, ← tallyAt_add, show Finset.Ico 0 (k + 1) = insert k (Finset.Ico 0 k) by ext x; simp only [Finset.mem_Ico, Finset.mem_insert]; omega,
      bigSep_insert Finset.right_notMem_Ico]
    exact (cred_add _ _).1.trans (sep_comm.1.trans (sep_mono_right ih))

omit [FloatOps F] in
/-- What a device is credited with: fifteen signals and fifteen copies. -/
theorem creds (c : Dev nD) : (Pipeline.launchCred owed₀ c : sProp 𝕄)
    ⊢ iprop(cred (tallyAt (barCell c) () 15) ∗ bigSep (Finset.Ico 0 15) fun _ => cred (tallyAt (recvCell c) () N)) := by
  unfold Pipeline.launchCred
  rw [bigSep_univ_at _ (SemLoc.reg barS), launch_bar]
  refine sep_mono_right (.trans ?_ (cred_each (recvCell c) N 15))
  rw [← launch_recv]
  exact bigSep_elim (Finset.mem_erase.mpr ⟨recv_ne_bar, Finset.mem_univ _⟩)

end Cert.KernelProof

end
-- ==== Proof.Data.lean ====
/-
# The kernel's launch: what each device stages, runs and leaves
-/
module

public import proofs.«01_k».proof.Proof.Body
public import proofs.«01_k».proof.Proof.Deal
public import proofs.«01_k».proof.Proof.Credit

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat BodyObligation)

variable {F : FTy → Type} [FloatOps F]

local notation "𝕄" => Res F

variable (m : (ℓ : Loc nD τ sig) → Buf (Elt F) ℓ) (ρ : Dev nD → PrngReg)

/-- What a device starts with, its scratch buffers aside. -/
def start (c : Dev nD) : sProp 𝕄 :=
  iprop(G' m c ∗ (cred (tallyAt (barCell c) () 15) ∗ bigSep (Finset.Ico 0 15) fun _ => cred (tallyAt (recvCell c) () N))
    ∗ levAts L lv ∗ wHeld m c)

/-- The launch's data on a device: what its arrays hold, what its windows hold after the body, what it keeps before and
    after the body, and what it owes. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => sxIn m c
    | ⟨2, _⟩ => swIn m c
    | ⟨3, _⟩ => outX m c
  Φ t := match t with
    | ⟨0, _⟩ => iprop(start m c ∗ scratch F c)
    | ⟨_ + 1, _⟩ => finish m c
  q _ := fullShare
  owed t := match t with
    | ⟨0, _⟩ => owed₀ c
    | ⟨_ + 1, _⟩ => 0

omit [FloatOps F] in
/-- A staged buffer, by its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A buffer holding `X`, plainly. -/
theorem stg_eq (c : Dev nD) (b : Ref sig .tc) (X : b.ty.Contents (Elt F)) :
    stg c b X ⊢ iprop(((c : Thread nD τ).loc b) ↦{fullShare} X) := by
  iintro ⟨%f, %hf, H⟩
  subst hf
  iexact H

/-- A staging buffer held whole, as the body takes it. -/
theorem stg_intro (c : Dev nD) (b : Ref sig .tc) (X : b.ty.Contents (Elt F)) :
    iprop(((c : Thread nD τ).loc b) ↦{fullShare} X) ⊢ stg c b X := by
  iintro H
  iexists X
  isplitr; · (ipureintro; rfl)
  iexact H

/-- What the body of the launch starts with, -/
def bodyPre (c : Dev nD) : sProp 𝕄 :=
  iprop((start m c ∗ scratch F c) ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

/-- and what it ends with. -/
def bodyPost (c : Dev nD) : sProp 𝕄 :=
  iprop(finish m c ∗ (dats m 0 c).owesAt () t0_0.succ
    ∗ stg c cc0_stg0_0 (xIn m c) ∗ stg c cc0_stg1_0 (sxIn m c) ∗ stg c cc0_stg2_0 (swIn m c) ∗ stg c cc0_stg3_0 (outX m c))

/-- What a device starts with, under some names for the invariants of the counters. -/
theorem start_given (c : Dev nD) : start m c ⊢ iprop(∃ K, given m c K) := by
  unfold start G' given
  iintro ⟨⟨%K, HK, Ha, Ht, Hs⟩, Hc, Hl, HW⟩
  iexists K
  isplitl [HK]; · iexact HK
  isplitl [Hl]; · iexact Hl
  isplitl [Ha]; · iexact Ha
  isplitl [Ht]; · iexact Ht
  isplitl [Hc]; · iexact Hc
  isplitl [Hs] <;> iassumption

/-- The body finds the device's rows of `x` staged, -/
theorem before_x (c : Dev nD) (d) : (dats m 0 c).before (0 : Fin 4) t0_0 d = xIn m c := by
  unfold Dat.before; rw [if_pos (fetch0_0 t0_0)]; rfl
/-- the first scale, -/
theorem before_sx (c : Dev nD) (d) : (dats m 0 c).before (1 : Fin 4) t0_0 d = sxIn m c := by
  unfold Dat.before; rw [if_pos (fetch0_1 t0_0)]; rfl
/-- and the second. -/
theorem before_sw (c : Dev nD) (d) : (dats m 0 c).before (2 : Fin 4) t0_0 d = swIn m c := by
  unfold Dat.before; rw [if_pos (fetch0_2 t0_0)]; rfl

/-- The body from what the launch hands it to what the launch asks back. -/
theorem body_sound (c : Dev nD) : bodyPre m c ⊢ wpK c bodyP (fun _ => bodyPost m c) := by
  unfold bodyPre
  simp only [before_x, before_sx, before_sw]
  unfold Dat.owesAt Pipeline.owesWithin
  iintro ⟨⟨Hst, Hs⟩, ⟨%W, %hW, HO⟩, ⟨%d0, Hx⟩, ⟨%d1, Ha⟩, ⟨%d2, Hb⟩, ⟨%d3, Ho⟩⟩
  ihave Hst := (start_given m c) $$ Hst
  icases Hst with ⟨%K, Hg⟩
  ihave Hx := (stg_eq c cc0_stg0_0 _) $$ Hx
  ihave Ha := (stg_eq c cc0_stg1_0 _) $$ Ha
  ihave Hb := (stg_eq c cc0_stg2_0 _) $$ Hb
  ihave Ho := (stg_eq c cc0_stg3_0 _) $$ Ho
  iapply (body_run m c K) $$ [Hg Hs Hx Ha Hb Ho HO]
  · isplitl [Hg]; · iexact Hg
    isplitl [Hs]; · iexact Hs
    isplitl [Hx]; · unfold xHeld; iexact Hx
    isplitl [Ha Hb]
    · unfold scalesHeld; isplitl [Ha] <;> iassumption
    isplitl [Ho]
    · iapply (Entails.of_eq (scr_any c cc0_stg3_0))
      unfold scr; iexists _; iexact Ho
    unfold owing
    iexists W; iexact HO
  iintro ⟨Hf, Hx, Hab, Ho, HO⟩
  unfold bodyPost Dat.owesAt Pipeline.owesWithin xHeld scalesHeld owing
  icases Hab with ⟨Ha, Hb⟩
  icases HO with ⟨%W', HO⟩
  isplitl [Hf]; · iexact Hf
  isplitl [HO]
  · iexists W'
    isplitr; · ipureintro; exact fun _ _ => Or.inl trivial
    iexact HO
  isplitl [Hx]; · iapply (stg_intro c cc0_stg0_0 _) $$ Hx
  isplitl [Ha]; · iapply (stg_intro c cc0_stg1_0 _) $$ Ha
  isplitl [Hb]; · iapply (stg_intro c cc0_stg2_0 _) $$ Hb
  iapply (Entails.of_eq (owns_whole_eq c cc0_stg3_0 (outX m c)))
  unfold own
  iexact Ho

/-- What the launch calls is the body. -/
theorem body_at : bodyAt0 (F := F) t0_0 = bodyP := body_eq

set_option maxRecDepth 100000 in
/-- The body obligation of the launch. -/
theorem body_obligation (c : Dev nD) : BodyObligation (dats m 0 c) (defs₀ (F := F)) 𝒱₀ () Set.univ := fun t => by
  rw [fin_N0 t]
  rw [bigSep_W0, bigSep_W0]
  simp only [owns_whole_eq]
  show bodyPre m c ⊢ wpK c (bodyAt0 t0_0) (fun _ => bodyPost m c)
  rw [body_at]
  exact body_sound m c

end Cert.KernelProof

end
-- ==== Proof.Run.lean ====
/-
# A run of the kernel on all devices
-/
module

public import proofs.«01_k».proof.Proof.Data
public import Idealize.ShloMosaic.Lib.Pipeline.CollectiveSegs

@[expose] public section

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat BodyObligation)

variable {F : FTy → Type} [FloatOps F]

local notation "𝕄" => Res F

variable (m : (ℓ : Loc nD τ sig) → Buf (Elt F) ℓ) (ρ : Dev nD → PrngReg)

/-! ## The conditions of the launch -/

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [Pipeline.unscopedRestP_none, unscopedRest0_eq]
  iintro ⟨HW, Hlev, Hcr, -, HG⟩
  ihave Hc := (creds (F := F) c) $$ Hcr
  imodintro
  unfold start wHeld
  isplitl
  · isplitl [HG]; · iexact HG
    isplitl [Hc]; · iexact Hc
    isplitl [Hlev] <;> iassumption
  · iempintro

/-- With the scratch buffers that is what the body takes, -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch F c) from rfl, scopedRest0_eq]
  unfold scratch scr
  iintro ⟨Hs, -, Hr⟩
  isplitl [Hs] <;> iassumption

/-- What a device holds after the launch: its barrier counter at zero, and its matrix unchanged. -/
def left (c : Dev nD) : sProp 𝕄 := iprop(unscopedSems0 c ∗ wHeld m c)

/-- and what the body leaves is returned. -/
theorem leave (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = finish m c from rfl, scopedRest0_eq]
  unfold finish left scratch scr
  rw [unscopedSems_eq]
  iintro ⟨Hs, HB, HW, Hr⟩
  isplitl [HB HW]
  · isplitl [HB] <;> iassumption
  isplitl [Hs]; · iapply (sems_end (F := F) c) $$ Hs
  iexact Hr

/-- Every staged array is held whole. -/
theorem share_eq (c : Dev nD) (w : Fin cfg0.W) : (dats m 0 c).share w = fullShare := by unfold Dat.share; split <;> rfl

/-- A device may wait for its staging copies. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide) 0 0
    · exact (show _ ⊢ emp from by iintro -; iempintro).trans (Entails.of_eq (MayWait_zero _ _ ()).symm)

/-- What is read off the memory at the end, besides the windows' arrays. -/
def seen (c : Dev nD) (s : MemSt nD τ sig (Elt F)) : Prop :=
  s.mem ((c : Thread nD τ).loc main_arg1) = m ((c : Thread nD τ).loc main_arg1)
    ∧ ∀ sm : SemLoc sig, sm.isScoped .tc = false → s.sem ((c : Thread nD τ), sm) = 0

/-- What a device has left shows what its arrays hold. -/
theorem left_seen (c : Dev nD) (s' : Phys nD τ sig (Elt F)) :
    iprop(left m c ∗ emp ∗ SI s') ⊢ |={Set.univ}=> iprop(⌜seen m c s'.mem⌝ ∗ SI s') := by
  unfold left wHeld
  iintro ⟨⟨Hu, HW⟩, -, HSI⟩
  ihave %h := (SI_pointsTo_agree (st := s') (ℓ := (c : Thread nD τ).loc main_arg1)) $$ [HSI HW]
  · isplitl [HSI] <;> iassumption
  imod (Pipeline.unscopedSems0_read (X := unscopedSems0 c) (c := c) fupd_intro s') $$ [Hu HSI] with ⟨%h', HSI⟩
  · isplitl [Hu] <;> iassumption
  imodintro
  isplitr
  · ipureintro; exact ⟨funext fun i => h i (Finset.mem_univ _), h'⟩
  iexact HSI

/-! ## The run -/

/-- The final state: the windows' arrays as the launch leaves them, the matrix unchanged, every semaphore at zero. -/
def atEnd (s : MemSt nD τ sig (Elt F)) : Prop :=
  (∀ c : Dev nD, (∀ w : Fin cfg0.W, s.mem ((cfg0.win w).arr.view.loc (c : Thread nD τ)) = (dats m 0 c).arrAt w cfg0.N)
    ∧ s.mem ((c : Thread nD τ).loc main_arg1) = m ((c : Thread nD τ).loc main_arg1)) ∧ s.sem = fun _ => 0

set_option maxRecDepth 8000 in
/-- From any memory with the semaphores at zero every fair run of the sixteen devices terminates in such a state. -/
theorem run_main : θ_run defs (onTc (τ := τ) (main (F := F))) ⟨m, fun _ => 0, ρ⟩ (fun r => atEnd m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀) (hu₀ := launch_split m) (hglob := glob m)
    (hA := fun _ _ => rfl) (hpf := fun _ k => k.elim0)
    (X := start m) (Y := left m) (Z := fun _ => iprop(emp))
    (hX := start_intro m ρ) (hin := enter m) (hout := leave m)
    (QY := seen m) (hY := left_seen m)
    (hQ := fun _ h hs => ⟨fun c => ⟨(h c).1, (h c).2.2.1⟩, sem_eq_zero hs fun c => (h c).2.2.2⟩)

/-! ## What the arrays hold at the end -/

/-- The pipeline leaves `x` as it was, -/
theorem end_x (c : Dev nD) : (dats m 0 c).arrAt (0 : Fin 4) cfg0.N = m ((c : Thread nD τ).loc main_arg0) :=
  (dats m 0 c).arrAt_in (0 : Fin 4) rfl _
/-- the first scale, -/
theorem end_sx (c : Dev nD) : (dats m 0 c).arrAt (1 : Fin 4) cfg0.N = m ((c : Thread nD τ).loc main_arg2) :=
  (dats m 0 c).arrAt_in (1 : Fin 4) rfl _
/-- and the second. -/
theorem end_sw (c : Dev nD) : (dats m 0 c).arrAt (2 : Fin 4) cfg0.N = m ((c : Thread nD τ).loc main_arg3) :=
  (dats m 0 c).arrAt_in (2 : Fin 4) rfl _

/-- The one block of `x` is at offset zero, -/
theorem zero_x : (fun a => (win0_0.index (0 : Fin 1)) a * main_arg0.ty.shape.size a) = fun _ => 0 := by decide
/-- so is that of the first scale, -/
theorem zero_sx : (fun a => (win0_1.index (0 : Fin 1)) a * main_arg2.ty.shape.size a) = fun _ => 0 := by decide
/-- that of the second, -/
theorem zero_sw : (fun a => (win0_2.index (0 : Fin 1)) a * main_arg3.ty.shape.size a) = fun _ => 0 := by decide
/-- and that of the result. -/
theorem zero_out : (fun a => (win0_3.index (0 : Fin 1)) a * main_v1.ty.shape.size a) = fun _ => 0 := by decide

/-- The windows are the whole arrays. -/
theorem xIn_eq (c : Dev nD) : xIn m c = m ((c : Thread nD τ).loc main_arg0) :=
  Memref.read_access_unit_zero (Elt F) main_arg0 zero_x (by decide) _
/-- the first scale, -/
theorem sxIn_eq (c : Dev nD) : sxIn m c = m ((c : Thread nD τ).loc main_arg2) :=
  Memref.read_access_unit_zero (Elt F) main_arg2 zero_sx (by decide) _
/-- and the second. -/
theorem swIn_eq (c : Dev nD) : swIn m c = m ((c : Thread nD τ).loc main_arg3) :=
  Memref.read_access_unit_zero (Elt F) main_arg3 zero_sw (by decide) _

/-- The pipeline leaves the result as the body computed it. -/
theorem end_out (c : Dev nD) : (dats m 0 c).arrAt (3 : Fin 4) cfg0.N = outX m c := by
  rw [show cfg0.N = (t0_0 : Fin cfg0.N).val + 1 from N_0, Dat.arrAt_succ, if_pos (flush0_3 t0_0)]
  exact Memref.write_access_unit_zero_univ (Elt F) main_v1 zero_out (by decide) _ _

/-- Every fair run terminates; the arguments are unchanged, the semaphores at zero, and every device's result is `outX`. -/
theorem run_result : θ_run defs (onTc (τ := τ) (main (F := F))) ⟨m, fun _ => 0, ρ⟩ (fun r =>
    (∀ c : Dev nD, r.2.mem ((c : Thread nD τ).loc main_v1) = outX m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run _ _ _).mono (fun _ h => ⟨fun c => ⟨((h.1 c).1 (3 : Fin 4)).trans (end_out m c), ((h.1 c).1 (0 : Fin 4)).trans (end_x m c), (h.1 c).2,
    ((h.1 c).1 (1 : Fin 4)).trans (end_sx m c), ((h.1 c).1 (2 : Fin 4)).trans (end_sw m c)⟩, h.2⟩) (run_main m ρ)

end Cert.KernelProof

end
-- ==== Proof.Idealized.lean ====
/-
# A run of the idealized kernel

No operation of the kernel was rewritten, so its idealization is the same program.
-/
module

public import proofs.«01_k».proof.Proof.Run
public import proofs.«01_k».proof.Proof.Gen.KernelIdeal
public import Idealize.ShloMosaic.PureOps.Ideal

@[expose] public section

noncomputable section

namespace Cert.KernelProof

open Idealize.ShloMosaic Idealize.ShloMosaic.TcCoe Idealize.SL.Sem

attribute [local instance] Cert.Kernel.Gen.facts Cert.KernelIdeal.Gen.facts

set_option maxRecDepth 65536 in
/-- The bodies of the launch are the same, -/
theorem bodies_eq : Cert.KernelIdeal.defs₀ (F := Ideal) = Cert.Kernel.defs₀ (F := Ideal) := by
  funext pr ℓ a
  match pr, ℓ, a with
  | .tc, 0, (t, s) => exact rfl
  | .scScalar _, _, _ => exact rfl
  | .scVector _ _, _, _ => exact rfl

set_option maxRecDepth 65536 in
/-- so the definitions are, -/
theorem defs_eq : Cert.KernelIdeal.defs (F := Ideal) = Cert.Kernel.defs (F := Ideal) := by
  show Pipeline.defs _ _ = Pipeline.defs _ _
  rw [bodies_eq]

set_option maxRecDepth 65536 in
/-- and the programs. -/
theorem mains_eq : (onTc (τ := Cert.KernelIdeal.τ) (Cert.KernelIdeal.main (F := Ideal)))
    = (onTc (τ := Cert.Kernel.τ) (Cert.Kernel.main (F := Ideal))) := rfl

open Cert.KernelIdeal in
set_option maxRecDepth 65536 in
/-- What the kernel's run ends with, the idealized kernel's does. -/
theorem run_ideal (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c.tc : Thread nD τ).loc main_v1) = outX (F := Ideal) m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  have h := run_result (F := Ideal) m ρ
  rw [← defs_eq] at h
  exact h

end Cert.KernelProof

end
-- ==== Proof.Cell.lean ====
/-
# One element of the result

What the reference's mathematics puts at a row and a column, over the extended reals; and that the reference's
operations compute it.
-/
module

public import proofs.«01_k».proof.Proof.Gen.ReferenceIdeal.Run
public import Idealize.ShloMosaic.Lib.Pointwise

@[expose] public section

noncomputable section

namespace Cert.KernelProof

open Cert.ReferenceIdeal Cert.ReferenceIdeal.Gen
open Idealize.ShloMosaic Idealize.ShloMosaic.TcCoe

/-- Row `R` of `A` times column `C` of `B`, scaled by both scales, and no less than zero. `A` may be all rows of `x`
    or a device's. -/
def cell {M : ℕ} (A : (⟨2, ![M, 4096]⟩ : Shape).Idx → EReal) (B : (⟨2, ![4096, 8192]⟩ : Shape).Idx → EReal)
    (u v : (⟨1, ![1]⟩ : Shape).Idx → EReal) (R : Fin M) (C : Fin 8192) : EReal :=
  max ((∑ k : Fin 4096, A (ix2 R k) * B (ix2 k C)) * (u (ix1 0) * v (ix1 0))) 0

/-- The reference's operations, of its four arguments. -/
def refOut (A : FVec Ideal S4096x4096 .f32) (B : FVec Ideal S4096x8192 .f32) (u v : FVec Ideal S1 .f32) :
    FVec Ideal S4096x8192 .bf16 :=
  truncf .bf16 (maximumf (mulf (Host.dotGeneral dot_S4096x4096_S4096x8192_S4096x8192_1_0_0_1_n_n none A B)
    (broadcastInDim S4096x8192 ![0, 1] bcast_S1x1_S4096x8192_0_1 (broadcastInDim S1x1 ![1] bcast_S1_S1x1_1 (mulf u v))))
    (broadcastInDim S4096x8192 ![] bcast_S_S4096x8192 (constant S_ .f32 0x00000000#32))) bitsLt_bf16_f32

set_option maxRecDepth 16384 in
/-- The reference's result at an index. -/
theorem refOut_at (A : FVec Ideal S4096x4096 .f32) (B : FVec Ideal S4096x8192 .f32) (u v : FVec Ideal S1 .f32)
    (R : Fin 4096) (C : Fin 8192) : refOut A B u v (ix2 R C) = cell A B u v R C := by
  pointwise [refOut, cell]

end Cert.KernelProof

end
-- ==== Proof.Value.lean ====
/-
# The kernel's result is the reference's

At the ideal floats: the block device `c` ends with is block `c` of the columns of the reference's result.
-/
module

public import proofs.«01_k».proof.Proof.Run
public import proofs.«01_k».proof.Proof.Cell
public import Idealize.ShloMosaic.Lib.Layout

@[expose] public section

noncomputable section

namespace Cert.KernelProof

open Cert.Kernel Cert.Kernel.Gen
open Idealize.ShloMosaic Idealize.ShloMosaic.TcCoe

/-! ## The kernel's arithmetic at an index -/

set_option maxRecDepth 16384 in
/-- One block of the result at an index: a row times a column, scaled, and no less than zero. -/
theorem pay3_at (s : Ideal .f32) (x : Vec Ideal S256x4096 .bf16) (w : Vec Ideal S1x4096x512 .f32) (r : Fin 256) (l : Fin 512) :
    shapeCast S256x512 (k0_pay3 s x w) shapeCasts_S1x256x512_S256x512 (ix2 r l) =
      max ((∑ k : Fin 4096, x (ix2 r k) * w (ix3 0 k l)) * s) 0 := by
  pointwise [k0_pay3]

set_option maxRecDepth 16384 in
/-- Rounding the rows of `x` changes nothing. -/
theorem pay2_at (x : Vec Ideal S256x4096 .f32) (r : Fin 256) (k : Fin 4096) :
    k0_pay2 x (ix2 r k) = x (ix2 r k) := by
  pointwise [k0_pay2]

variable (m : (ℓ : Loc nD τ sig) → Buf (Elt Ideal) ℓ)

/-- The columns of the whole matrix that device `p` ends with. -/
def colOf (p : Dev nD) (l : Fin 512) : Fin 8192 := ⟨512 * p.val + l.val, by have : p.val < 16 := p.isLt; omega⟩

/-- A slot of the matrix buffer at an index: an element of the matrix. -/
theorem slotW_at (c p : Dev nD) (k : Fin 4096) (l : Fin 512) :
    slotW m c p (ix3 0 k l) = m ((c : Thread nD τ).loc main_arg1) (ix2 k (colOf p l)) := by
  have e : (Shape.reshapeEquiv squeezes_S1x4096x512_S4096x512.numel_eq).symm (ix3 0 k l) = ix2 k l := by
    rw [Equiv.symm_apply_eq]; pointwise
  unfold slotW colW
  rw [e]
  refine congrArg _ (funext fun a => Fin.ext ?_)
  rw [Rect.emb_apply]
  match a with
  | ⟨0, _⟩ => show 0 + 1 * k.val = k.val; omega
  | ⟨1, _⟩ => show 512 * p.val + 1 * l.val = 512 * p.val + l.val; omega

/-- The scale a device applies: the product of the two. -/
theorem scl_at (c : Dev nD) : scl m c =
    (show EReal from m ((c : Thread nD τ).loc main_arg2) (ix1 0)) * (show EReal from m ((c : Thread nD τ).loc main_arg3) (ix1 0)) := by
  have one : one0 = ix1 0 := eq_ix1 _ |>.trans (congrArg ix1 (Subsingleton.elim (α := Fin 1) _ _))
  unfold scl
  rw [one, sxIn_eq, swIn_eq]
  rfl

/-- A block of the result at an index, of the launch contents. -/
theorem chunk_at (c p : Dev nD) (r : Fin 256) (l : Fin 512) :
    chunk m c p (ix2 r l) = cell (m ((c : Thread nD τ).loc main_arg0)) (m ((c : Thread nD τ).loc main_arg1))
      (m ((c : Thread nD τ).loc main_arg2)) (m ((c : Thread nD τ).loc main_arg3)) r (colOf p l) := by
  refine (pay3_at (scl m c) (xb m c) (slotW m c p) r l).trans ?_
  rw [scl_at]
  unfold cell
  refine congrArg (fun t => max (t * _) (0 : EReal)) (Finset.sum_congr rfl fun k _ => ?_)
  rw [slotW_at]
  unfold xb
  rw [pay2_at, xIn_eq]

/-! ## Blocks of the whole arrays -/

/-- The row of the whole `x` that is row `r` of device `d`'s block. -/
def rowOf (d : Dev nD) (r : Fin 256) : Fin 4096 := ⟨256 * d.val + r.val, by have : d.val < 16 := d.isLt; omega⟩

/-- A device's rows, at an index, in the whole array. -/
theorem block_rows (d : Dev nD) (A : (⟨2, ![4096, 4096]⟩ : Shape).Idx → EReal) (r : Fin 256) (k : Fin 4096) :
    Layout.block ⟨2, ![256, 4096]⟩ ⟨2, ![4096, 4096]⟩ 0 16 d A (by decide) (ix2 r k) = A (ix2 (rowOf d r) k) := by
  rw [Layout.block_apply]
  refine congrArg A (funext fun a => Fin.ext ?_)
  match a with
  | ⟨0, _⟩ => show d.val * 256 + r.val = 256 * d.val + r.val; omega
  | ⟨1, _⟩ => rfl

/-- A device's columns, at an index, in the whole array. -/
theorem block_cols (c : Dev nD) (V : (⟨2, ![4096, 8192]⟩ : Shape).Idx → EReal) (R : Fin 4096) (l : Fin 512) :
    Layout.block ⟨2, ![4096, 512]⟩ ⟨2, ![4096, 8192]⟩ 1 16 c V (by decide) (ix2 R l) = V (ix2 R (colOf c l)) := by
  rw [Layout.block_apply]
  refine congrArg V (funext fun a => Fin.ext ?_)
  match a with
  | ⟨0, _⟩ => rfl
  | ⟨1, _⟩ => show c.val * 512 + l.val = 512 * c.val + l.val; omega

/-- An element computed from a device's rows is the element of the whole array at the row's place there. -/
theorem cell_rows (d : Dev nD) (A : (⟨2, ![4096, 4096]⟩ : Shape).Idx → EReal) (B : (⟨2, ![4096, 8192]⟩ : Shape).Idx → EReal)
    (u v : (⟨1, ![1]⟩ : Shape).Idx → EReal) (r : Fin 256) (C : Fin 8192) :
    cell (Layout.block ⟨2, ![256, 4096]⟩ ⟨2, ![4096, 4096]⟩ 0 16 d A) B u v r C = cell A B u v (rowOf d r) C := by
  unfold cell
  simp only [block_rows]

/-- Where every device holds its rows of `A`, and all hold `B`, `u` and `v`, each ends with its columns of the
    reference's result. -/
theorem outX_eq (A : (⟨2, ![4096, 4096]⟩ : Shape).Idx → EReal) (B : (⟨2, ![4096, 8192]⟩ : Shape).Idx → EReal)
    (u v : (⟨1, ![1]⟩ : Shape).Idx → EReal)
    (hA : ∀ c : Dev nD, m ((c : Thread nD τ).loc main_arg0) = Layout.block ⟨2, ![256, 4096]⟩ ⟨2, ![4096, 4096]⟩ 0 16 c A)
    (hB : ∀ c : Dev nD, m ((c : Thread nD τ).loc main_arg1) = B)
    (hu : ∀ c : Dev nD, m ((c : Thread nD τ).loc main_arg2) = u)
    (hv : ∀ c : Dev nD, m ((c : Thread nD τ).loc main_arg3) = v) (c : Dev nD) :
    outX m c = Layout.block ⟨2, ![4096, 512]⟩ ⟨2, ![4096, 8192]⟩ 1 16 c (refOut A B u v) := by
  funext i
  obtain ⟨R, l, rfl⟩ : ∃ (R : Fin 4096) (l : Fin 512), i = ix2 R l := ⟨i 0, i 1, eq_ix2 i⟩
  have at' : rowAt (ix2 R l) = ix2 (⟨R.val % 256, Nat.mod_lt _ (by decide)⟩ : Fin 256) l := by
    funext a
    match a with
    | ⟨0, _⟩ => rfl
    | ⟨1, _⟩ => rfl
  have back : rowOf (rowDev (ix2 R l)) ⟨R.val % 256, Nat.mod_lt _ (by decide)⟩ = R :=
    Fin.ext (show 256 * (R.val / 256) + R.val % 256 = R.val by omega)
  refine Eq.trans ?_ (block_cols c (refOut A B u v) R l).symm
  unfold outX
  rw [at', chunk_at, hA, hB, hu, hv, cell_rows, back, refOut_at]

end Cert.KernelProof

end
-- ==== Proof.lean ====
/-
# The claims

The runs of the kernel, of its idealization and of the reference, and that their results agree, put together.
-/
module

public import proofs.«01_k».proof.Defs
public import proofs.«01_k».proof.Proof.Idealized
public import proofs.«01_k».proof.Proof.Value

@[expose] public section

noncomputable section

namespace Cert.Proof

open Idealize.ShloMosaic Idealize.SL.Sem Cert.KernelProof

/-- The kernel runs, its arguments end unchanged and every semaphore ends at zero. -/
theorem kernel_frame : Cert.quiescent_Kernel (hKernel := Cert.Kernel.Gen.facts) := fun m g _ =>
  (θ_run _ _ _).mono (fun _ h => ⟨fun c => (h.1 c).2, h.2⟩) (run_result (F := Bits) m g)

/-- So does its idealization, -/
theorem ideal_frame : Cert.quiescent_KernelIdeal (hKernelIdeal := Cert.KernelIdeal.Gen.facts) := fun m g _ =>
  (θ_run _ _ _).mono (fun _ h => ⟨fun c => (h.1 c).2, h.2⟩) (run_ideal m g)

/-- and the reference, which has no semaphore. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Over the extended reals, each device ends with its columns of the reference's result. -/
theorem same_result : Cert.algebraic_KernelIdeal_ReferenceIdeal (hKernelIdeal := Cert.KernelIdeal.Gen.facts)
    (hReferenceIdeal := Cert.ReferenceIdeal.Gen.facts) := fun m g m' g' _ hin =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run _ _ _).mono (fun _ h c => ⟨(h.1 c).1.trans
        (outX_eq m _ _ _ _ (fun c => (hin c).1) (fun c => (hin c).2.1) (fun c => (hin c).2.2.1) (fun c => (hin c).2.2.2) c),
      (h.1 c).2⟩) (run_ideal m g),
    (θ_run _ _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  kernel_frame, ideal_frame, reference_frame, trivial, same_result⟩

end Cert.Proof

end
